-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x32x128 : S_.BroadcastsInDim S1x4096x32x128 (![] : Fin 0 → Fin S1x4096x32x128.rank)

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S1x256x1024 1 × IVec S1024x1024 1 × IVec S1x4096x32x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x32x128 .f32 := Host.absf main_arg2
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  (main_v2, main_v5, main_v8)
-- ==== Pre_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x4096x32x128 : S_.BroadcastsInDim S1x4096x32x128 (![] : Fin 0 → Fin S1x4096x32x128.rank)

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S1x1024x1024 1 × IVec S1024x4096 1 × IVec S1x4096x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x4096x32x128 .f32 := Host.absf main_arg2
  let main_cst_1 : FVec F S_ .f32 := constant S_ .f32 0x7F800000#32
  let main_v7 : FVec F S1x4096x32x128 .f32 := broadcastInDim S1x4096x32x128 ![] bcast_S_S1x4096x32x128 main_cst_1
  let main_v8 : IVec S1x4096x32x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩
abbrev S256x1024 : Shape := ⟨2, ![256, 1024]⟩
abbrev S1024x8x128 : Shape := ⟨3, ![1024, 8, 128]⟩
abbrev S8x1024x128 : Shape := ⟨3, ![8, 1024, 128]⟩
abbrev S8x128x1024 : Shape := ⟨3, ![8, 128, 1024]⟩
abbrev S4096x32x128 : Shape := ⟨3, ![4096, 32, 128]⟩
abbrev S3x256x1024 : Shape := ⟨3, ![3, 256, 1024]⟩
abbrev S256x128 : Shape := ⟨2, ![256, 128]⟩
abbrev S256x1 : Shape := ⟨2, ![256, 1]⟩
abbrev S3 : Shape := ⟨1, ![3]⟩
abbrev S2 : Shape := ⟨1, ![2]⟩
abbrev S1 : Shape := ⟨1, ![1]⟩
abbrev S256x256 : Shape := ⟨2, ![256, 256]⟩
abbrev S1x1024x128 : Shape := ⟨3, ![1, 1024, 128]⟩
abbrev S1024x128 : Shape := ⟨2, ![1024, 128]⟩
abbrev S1x256x128 : Shape := ⟨3, ![1, 256, 128]⟩
abbrev S256 : Shape := ⟨1, ![256]⟩
abbrev S1x128x1024 : Shape := ⟨3, ![1, 128, 1024]⟩
abbrev S128x1024 : Shape := ⟨2, ![128, 1024]⟩

abbrev nBuf : Space → Nat
  | .hbm => 46
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S256x1024, .f32⟩
  | .hbm, ⟨12, _⟩ => ⟨S256x1024, .bf16⟩
  | .hbm, ⟨13, _⟩ => ⟨S1024x8x128, .f32⟩
  | .hbm, ⟨14, _⟩ => ⟨S8x1024x128, .f32⟩
  | .hbm, ⟨15, _⟩ => ⟨S8x1024x128, .bf16⟩
  | .hbm, ⟨16, _⟩ => ⟨S8x128x1024, .f32⟩
  | .hbm, ⟨17, _⟩ => ⟨S8x128x1024, .bf16⟩
  | .hbm, ⟨18, _⟩ => ⟨S4096x32x128, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x8x128, .f32⟩
  | .hbm, ⟨29, _⟩ => ⟨S4096x32x128, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1024x8x128, .f32⟩
  | .hbm, ⟨40, _⟩ => ⟨S1024x8x128, .bf16⟩
  | .hbm, ⟨41, _⟩ => ⟨S8x1024x128, .bf16⟩
  | .hbm, ⟨42, _⟩ => ⟨S1024x8x128, .bf16⟩
  | .hbm, ⟨43, _⟩ => ⟨S8x1024x128, .bf16⟩
  | .hbm, ⟨44, _⟩ => ⟨S256x1024, .f32⟩
  | .hbm, ⟨45, _⟩ => ⟨S1x256x1024, .f32⟩
  | .local _ .vmem, ⟨0, _⟩ => ⟨S256x1024, .bf16⟩
  | .local _ .vmem, ⟨1, _⟩ => ⟨S8x1024x128, .bf16⟩
  | .local _ .vmem, ⟨2, _⟩ => ⟨S8x128x1024, .bf16⟩
  | .local _ .vmem, ⟨3, _⟩ => ⟨S256x1024, .f32⟩
  | .local _ .vmem, ⟨4, _⟩ => ⟨S1024x1024, .bf16⟩
  | .local _ .vmem, ⟨5, _⟩ => ⟨S8x1024x128, .bf16⟩
  | .local _ .vmem, ⟨6, _⟩ => ⟨S8x1024x128, .bf16⟩
  | .local _ .vmem, ⟨7, _⟩ => ⟨S1024x1024, .bf16⟩
  | .local _ .vmem, ⟨8, _⟩ => ⟨S3x256x1024, .bf16⟩
  | .local _ .vmem, ⟨9, _⟩ => ⟨S256x128, .f32⟩
  | .local _ .vmem, ⟨10, _⟩ => ⟨S256x1, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_c_7 : Ref sig .tc := ⟨.hbm, 32, rfl⟩
abbrev main_v20 : Ref sig .tc := ⟨.hbm, 33, rfl⟩
abbrev main_c_8 : Ref sig .tc := ⟨.hbm, 34, rfl⟩
abbrev main_v21 : Ref sig .tc := ⟨.hbm, 35, rfl⟩
abbrev main_v22 : Ref sig .tc := ⟨.hbm, 36, rfl⟩
abbrev main_c_9 : Ref sig .tc := ⟨.hbm, 37, rfl⟩
abbrev main_c_10 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_17 : BitVec 32 := 1#32
  let v31 : BitVec 32 := Scalar.muli v14 c1_i32_17
  let v32 : BitVec 32 := Scalar.addi c0_i32_18 v31
  v32.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_20 : BitVec 32 := 1#32
  let v33 : BitVec 32 := Scalar.muli v25 c1_i32_20
  let v34 : BitVec 32 := Scalar.addi c0_i32_21 v33
  v34.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v37 : BitVec 32 := Scalar.muli v2 c256_i32
  let v38 : Index := Scalar.indexCast v37
  let c0_23 : Index := 0#32
  ![v38.toNat, 0]
def k0_off2 (d0 : Dev nD) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_37 : BitVec 32 := 4#32
  let v95 : BitVec 32 := Scalar.addi v2 c4_i32_37
  let v96 : BitVec 32 := Scalar.subi v95 c0_i32_38
  let c4_i32_39 : BitVec 32 := 4#32
  let c0_i32_40 : BitVec 32 := 0#32
  let v97 : BitVec 1 := Scalar.cmpi .eq c4_i32_39 c0_i32_40
  let c1_i32_41 : BitVec 32 := 1#32
  let v98 : BitVec 32 := Scalar.select v97 c1_i32_41 c4_i32_39
  let v99 : BitVec 32 := Scalar.remsi v96 v98
  let c0_i32_43 : BitVec 32 := 0#32
  let v101 : BitVec 1 := Scalar.cmpi .slt v99 c0_i32_43
  let c0_i32_44 : BitVec 32 := 0#32
  let v102 : BitVec 1 := Scalar.cmpi .slt v98 c0_i32_44
  let v103 : BitVec 1 := Scalar.xori v101 v102
  let c0_i32_42 : BitVec 32 := 0#32
  let v100 : BitVec 1 := Scalar.cmpi .ne v99 c0_i32_42
  let v104 : BitVec 1 := Scalar.andi v103 v100
  let v105 : BitVec 32 := Scalar.addi v99 v98
  let v106 : BitVec 32 := Scalar.select v104 v105 v99
  let c256_i32_46 : BitVec 32 := 256#32
  let v108 : BitVec 32 := Scalar.muli v106 c256_i32_46
  let c0_i32_51 : BitVec 32 := 0#32
  ![v108.toNat, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_49 : BitVec 32 := 1#32
  let v109 : BitVec 32 := Scalar.muli v25 c1_i32_49
  let v110 : BitVec 32 := Scalar.addi c0_i32_50 v109
  v110.toNat
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_73 : BitVec 32 := 1#32
  let v141 : BitVec 32 := Scalar.muli v25 c1_i32_73
  let v142 : BitVec 32 := Scalar.addi c0_i32_74 v141
  v142.toNat
def k0_off3 (d0 : Dev nD) (c1_i32_78 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c256_i32_85 : BitVec 32 := 256#32
  let v161 : BitVec 32 := Scalar.muli v160 c256_i32_85
  let v162 : Index := Scalar.indexCast v161
  let c0_86 : Index := 0#32
  ![v162.toNat, 0]
@[reducible] def k0_t1_loop : Scf.Loop 32 :=
  let c0_i32_87 : BitVec 32 := 0#32
  let c8_i32 : BitVec 32 := 8#32
  let v165 : BitVec 32 := Scalar.addi c0_i32_87 c8_i32
  let c1_i32_88 : BitVec 32 := 1#32
  ⟨c0_i32_87, v165, c1_i32_88⟩
def k0_off4 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v372 : Index := Scalar.indexCast arg18
  let c0_266 : Index := 0#32
  let c0_267 : Index := 0#32
  ![v372.toNat, 0, 0]
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c0_i32_276 : BitVec 32 := 0#32
  let v387 : BitVec 1 := Scalar.cmpi .sgt v160 c0_i32_276
  let v388 : BitVec 32 := Scalar.extui v387
  let c0_i32_277 : BitVec 32 := 0#32
  let v389 : BitVec 1 := Scalar.cmpi .ne v388 c0_i32_277
  v389

def k0_off5 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c0_298 : Index := 0#32
  let c0_299 : Index := 0#32
  ![v421.toNat, 0, 0]
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c0_i32_278 : BitVec 32 := 0#32
  let v390 : BitVec 1 := Scalar.cmpi .eq v160 c0_i32_278
  let v391 : BitVec 32 := Scalar.extui v390
  let c0_i32_279 : BitVec 32 := 0#32
  let v392 : BitVec 1 := Scalar.cmpi .ne v391 c0_i32_279
  v392

def k0_off6 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c0_298 : Index := 0#32
  let c0_299 : Index := 0#32
  ![v421.toNat, 0, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c1_i32_280 : BitVec 32 := 1#32
  let v393 : BitVec 1 := Scalar.cmpi .sgt v160 c1_i32_280
  let v394 : BitVec 32 := Scalar.extui v393
  let c0_i32_281 : BitVec 32 := 0#32
  let v395 : BitVec 1 := Scalar.cmpi .ne v394 c0_i32_281
  v395

def k0_off7 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c256 : Index := 256#32
  let c0_298 : Index := 0#32
  ![v421.toNat, 256, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c1_i32_282 : BitVec 32 := 1#32
  let v396 : BitVec 1 := Scalar.cmpi .eq v160 c1_i32_282
  let v397 : BitVec 32 := Scalar.extui v396
  let c0_i32_283 : BitVec 32 := 0#32
  let v398 : BitVec 1 := Scalar.cmpi .ne v397 c0_i32_283
  v398

def k0_off8 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c256 : Index := 256#32
  let c0_298 : Index := 0#32
  ![v421.toNat, 256, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c2_i32_284 : BitVec 32 := 2#32
  let v399 : BitVec 1 := Scalar.cmpi .sgt v160 c2_i32_284
  let v400 : BitVec 32 := Scalar.extui v399
  let c0_i32_285 : BitVec 32 := 0#32
  let v401 : BitVec 1 := Scalar.cmpi .ne v400 c0_i32_285
  v401

def k0_off9 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c512 : Index := 512#32
  let c0_298 : Index := 0#32
  ![v421.toNat, 512, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c2_i32_286 : BitVec 32 := 2#32
  let v402 : BitVec 1 := Scalar.cmpi .eq v160 c2_i32_286
  let v403 : BitVec 32 := Scalar.extui v402
  let c0_i32_287 : BitVec 32 := 0#32
  let v404 : BitVec 1 := Scalar.cmpi .ne v403 c0_i32_287
  v404

def k0_off10 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c512 : Index := 512#32
  let c0_298 : Index := 0#32
  ![v421.toNat, 512, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c3_i32 : BitVec 32 := 3#32
  let v405 : BitVec 1 := Scalar.cmpi .sgt v160 c3_i32
  let v406 : BitVec 32 := Scalar.extui v405
  let c0_i32_288 : BitVec 32 := 0#32
  let v407 : BitVec 1 := Scalar.cmpi .ne v406 c0_i32_288
  v407

def k0_off11 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c768 : Index := 768#32
  let c0_298 : Index := 0#32
  ![v421.toNat, 768, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_77 : BitVec 32 := 4#32
  let v149 : BitVec 32 := Scalar.addi v2 c4_i32_77
  let c1_i32_78 : BitVec 32 := 1#32
  let v150 : BitVec 32 := Scalar.subi v149 c1_i32_78
  let c4_i32_79 : BitVec 32 := 4#32
  let c0_i32_80 : BitVec 32 := 0#32
  let v151 : BitVec 1 := Scalar.cmpi .eq c4_i32_79 c0_i32_80
  let c1_i32_81 : BitVec 32 := 1#32
  let v152 : BitVec 32 := Scalar.select v151 c1_i32_81 c4_i32_79
  let v153 : BitVec 32 := Scalar.remsi v150 v152
  let c0_i32_83 : BitVec 32 := 0#32
  let v155 : BitVec 1 := Scalar.cmpi .slt v153 c0_i32_83
  let c0_i32_84 : BitVec 32 := 0#32
  let v156 : BitVec 1 := Scalar.cmpi .slt v152 c0_i32_84
  let v157 : BitVec 1 := Scalar.xori v155 v156
  let c0_i32_82 : BitVec 32 := 0#32
  let v154 : BitVec 1 := Scalar.cmpi .ne v153 c0_i32_82
  let v158 : BitVec 1 := Scalar.andi v157 v154
  let v159 : BitVec 32 := Scalar.addi v153 v152
  let v160 : BitVec 32 := Scalar.select v158 v159 v153
  let c3_i32_289 : BitVec 32 := 3#32
  let v408 : BitVec 1 := Scalar.cmpi .eq v160 c3_i32_289
  let v409 : BitVec 32 := Scalar.extui v408
  let c0_i32_290 : BitVec 32 := 0#32
  let v410 : BitVec 1 := Scalar.cmpi .ne v409 c0_i32_290
  v410

def k0_off12 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v421 : Index := Scalar.indexCast arg18
  let c768 : Index := 768#32
  let c0_298 : Index := 0#32
  ![v421.toNat, 768, 0]
def k0_off13 (k0_t1 : Fin k0_t1_loop.trips) : Fin 3 → Nat :=
  let c0_i32_87 : BitVec 32 := 0#32
  let c1_i32_88 : BitVec 32 := 1#32
  let arg18 : BitVec 32 := Scf.iv c0_i32_87 c1_i32_88 k0_t1
  let v416 : Index := Scalar.indexCast arg18
  let c0_295 : Index := 0#32
  let c0_296 : Index := 0#32
  ![v416.toNat, 0, 0]
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_96 : BitVec 32 := 1#32
  let v174 : BitVec 32 := Scalar.muli v25 c1_i32_96
  let v175 : BitVec 32 := Scalar.addi c0_i32_97 v174
  v175.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_119 : BitVec 32 := 1#32
  let v203 : BitVec 32 := Scalar.muli v25 c1_i32_119
  let v204 : BitVec 32 := Scalar.addi c0_i32_120 v203
  v204.toNat
@[reducible] def k0_t2_loop : Scf.Loop 32 :=
  let c0_i32_134 : BitVec 32 := 0#32
  let c8_i32_135 : BitVec 32 := 8#32
  let v227 : BitVec 32 := Scalar.addi c0_i32_134 c8_i32_135
  let c1_i32_136 : BitVec 32 := 1#32
  ⟨c0_i32_134, v227, c1_i32_136⟩
def k0_off14 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v372 : Index := Scalar.indexCast arg18
  let c0_266 : Index := 0#32
  let c0_267 : Index := 0#32
  ![v372.toNat, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c0_i32_276 : BitVec 32 := 0#32
  let v387 : BitVec 1 := Scalar.cmpi .sgt v222 c0_i32_276
  let v388 : BitVec 32 := Scalar.extui v387
  let c0_i32_277 : BitVec 32 := 0#32
  let v389 : BitVec 1 := Scalar.cmpi .ne v388 c0_i32_277
  v389

def k0_off15 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c0_298 : Index := 0#32
  let c0_299 : Index := 0#32
  ![v421.toNat, 0, 0]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c0_i32_278 : BitVec 32 := 0#32
  let v390 : BitVec 1 := Scalar.cmpi .eq v222 c0_i32_278
  let v391 : BitVec 32 := Scalar.extui v390
  let c0_i32_279 : BitVec 32 := 0#32
  let v392 : BitVec 1 := Scalar.cmpi .ne v391 c0_i32_279
  v392

def k0_off16 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c0_298 : Index := 0#32
  let c0_299 : Index := 0#32
  ![v421.toNat, 0, 0]
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c1_i32_280 : BitVec 32 := 1#32
  let v393 : BitVec 1 := Scalar.cmpi .sgt v222 c1_i32_280
  let v394 : BitVec 32 := Scalar.extui v393
  let c0_i32_281 : BitVec 32 := 0#32
  let v395 : BitVec 1 := Scalar.cmpi .ne v394 c0_i32_281
  v395

def k0_off17 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c256 : Index := 256#32
  let c0_298 : Index := 0#32
  ![v421.toNat, 256, 0]
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c1_i32_282 : BitVec 32 := 1#32
  let v396 : BitVec 1 := Scalar.cmpi .eq v222 c1_i32_282
  let v397 : BitVec 32 := Scalar.extui v396
  let c0_i32_283 : BitVec 32 := 0#32
  let v398 : BitVec 1 := Scalar.cmpi .ne v397 c0_i32_283
  v398

def k0_off18 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c256 : Index := 256#32
  let c0_298 : Index := 0#32
  ![v421.toNat, 256, 0]
def k0_cond13 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c2_i32_284 : BitVec 32 := 2#32
  let v399 : BitVec 1 := Scalar.cmpi .sgt v222 c2_i32_284
  let v400 : BitVec 32 := Scalar.extui v399
  let c0_i32_285 : BitVec 32 := 0#32
  let v401 : BitVec 1 := Scalar.cmpi .ne v400 c0_i32_285
  v401

def k0_off19 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c512 : Index := 512#32
  let c0_298 : Index := 0#32
  ![v421.toNat, 512, 0]
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c2_i32_286 : BitVec 32 := 2#32
  let v402 : BitVec 1 := Scalar.cmpi .eq v222 c2_i32_286
  let v403 : BitVec 32 := Scalar.extui v402
  let c0_i32_287 : BitVec 32 := 0#32
  let v404 : BitVec 1 := Scalar.cmpi .ne v403 c0_i32_287
  v404

def k0_off20 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c512 : Index := 512#32
  let c0_298 : Index := 0#32
  ![v421.toNat, 512, 0]
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c3_i32 : BitVec 32 := 3#32
  let v405 : BitVec 1 := Scalar.cmpi .sgt v222 c3_i32
  let v406 : BitVec 32 := Scalar.extui v405
  let c0_i32_288 : BitVec 32 := 0#32
  let v407 : BitVec 1 := Scalar.cmpi .ne v406 c0_i32_288
  v407

def k0_off21 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c768 : Index := 768#32
  let c0_298 : Index := 0#32
  ![v421.toNat, 768, 0]
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_123 : BitVec 32 := 4#32
  let v211 : BitVec 32 := Scalar.addi v2 c4_i32_123
  let c2_i32_124 : BitVec 32 := 2#32
  let v212 : BitVec 32 := Scalar.subi v211 c2_i32_124
  let c4_i32_125 : BitVec 32 := 4#32
  let c0_i32_126 : BitVec 32 := 0#32
  let v213 : BitVec 1 := Scalar.cmpi .eq c4_i32_125 c0_i32_126
  let c1_i32_127 : BitVec 32 := 1#32
  let v214 : BitVec 32 := Scalar.select v213 c1_i32_127 c4_i32_125
  let v215 : BitVec 32 := Scalar.remsi v212 v214
  let c0_i32_129 : BitVec 32 := 0#32
  let v217 : BitVec 1 := Scalar.cmpi .slt v215 c0_i32_129
  let c0_i32_130 : BitVec 32 := 0#32
  let v218 : BitVec 1 := Scalar.cmpi .slt v214 c0_i32_130
  let v219 : BitVec 1 := Scalar.xori v217 v218
  let c0_i32_128 : BitVec 32 := 0#32
  let v216 : BitVec 1 := Scalar.cmpi .ne v215 c0_i32_128
  let v220 : BitVec 1 := Scalar.andi v219 v216
  let v221 : BitVec 32 := Scalar.addi v215 v214
  let v222 : BitVec 32 := Scalar.select v220 v221 v215
  let c3_i32_289 : BitVec 32 := 3#32
  let v408 : BitVec 1 := Scalar.cmpi .eq v222 c3_i32_289
  let v409 : BitVec 32 := Scalar.extui v408
  let c0_i32_290 : BitVec 32 := 0#32
  let v410 : BitVec 1 := Scalar.cmpi .ne v409 c0_i32_290
  v410

def k0_off22 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v421 : Index := Scalar.indexCast arg18
  let c768 : Index := 768#32
  let c0_298 : Index := 0#32
  ![v421.toNat, 768, 0]
def k0_off23 (k0_t2 : Fin k0_t2_loop.trips) : Fin 3 → Nat :=
  let c0_i32_134 : BitVec 32 := 0#32
  let c1_i32_136 : BitVec 32 := 1#32
  let arg18 : BitVec 32 := Scf.iv c0_i32_134 c1_i32_136 k0_t2
  let v416 : Index := Scalar.indexCast arg18
  let c0_295 : Index := 0#32
  let c0_296 : Index := 0#32
  ![v416.toNat, 0, 0]
def k0_dev7 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_158 : BitVec 32 := 1#32
  let v253 : BitVec 32 := Scalar.muli v25 c1_i32_158
  let v254 : BitVec 32 := Scalar.addi c0_i32_159 v253
  v254.toNat
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c256_i32_176 : BitVec 32 := 256#32
  let v279 : BitVec 32 := Scalar.muli v278 c256_i32_176
  let v280 : Index := Scalar.indexCast v279
  let c0_177 : Index := 0#32
  ![v280.toNat, 0]
@[reducible] def k0_t3_loop : Scf.Loop 32 :=
  let c0_i32_179 : BitVec 32 := 0#32
  let c8_i32_180 : BitVec 32 := 8#32
  let v283 : BitVec 32 := Scalar.addi c0_i32_179 c8_i32_180
  let c1_i32_181 : BitVec 32 := 1#32
  ⟨c0_i32_179, v283, c1_i32_181⟩
def k0_off25 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v372 : Index := Scalar.indexCast arg18
  let c0_266 : Index := 0#32
  let c0_267 : Index := 0#32
  ![v372.toNat, 0, 0]
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c0_i32_276 : BitVec 32 := 0#32
  let v387 : BitVec 1 := Scalar.cmpi .sgt v278 c0_i32_276
  let v388 : BitVec 32 := Scalar.extui v387
  let c0_i32_277 : BitVec 32 := 0#32
  let v389 : BitVec 1 := Scalar.cmpi .ne v388 c0_i32_277
  v389

def k0_off26 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c0_298 : Index := 0#32
  let c0_299 : Index := 0#32
  ![v421.toNat, 0, 0]
def k0_cond18 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c0_i32_278 : BitVec 32 := 0#32
  let v390 : BitVec 1 := Scalar.cmpi .eq v278 c0_i32_278
  let v391 : BitVec 32 := Scalar.extui v390
  let c0_i32_279 : BitVec 32 := 0#32
  let v392 : BitVec 1 := Scalar.cmpi .ne v391 c0_i32_279
  v392

def k0_off27 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c0_298 : Index := 0#32
  let c0_299 : Index := 0#32
  ![v421.toNat, 0, 0]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c1_i32_280 : BitVec 32 := 1#32
  let v393 : BitVec 1 := Scalar.cmpi .sgt v278 c1_i32_280
  let v394 : BitVec 32 := Scalar.extui v393
  let c0_i32_281 : BitVec 32 := 0#32
  let v395 : BitVec 1 := Scalar.cmpi .ne v394 c0_i32_281
  v395

def k0_off28 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c256 : Index := 256#32
  let c0_298 : Index := 0#32
  ![v421.toNat, 256, 0]
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c1_i32_282 : BitVec 32 := 1#32
  let v396 : BitVec 1 := Scalar.cmpi .eq v278 c1_i32_282
  let v397 : BitVec 32 := Scalar.extui v396
  let c0_i32_283 : BitVec 32 := 0#32
  let v398 : BitVec 1 := Scalar.cmpi .ne v397 c0_i32_283
  v398

def k0_off29 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c256 : Index := 256#32
  let c0_298 : Index := 0#32
  ![v421.toNat, 256, 0]
def k0_cond21 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c2_i32_284 : BitVec 32 := 2#32
  let v399 : BitVec 1 := Scalar.cmpi .sgt v278 c2_i32_284
  let v400 : BitVec 32 := Scalar.extui v399
  let c0_i32_285 : BitVec 32 := 0#32
  let v401 : BitVec 1 := Scalar.cmpi .ne v400 c0_i32_285
  v401

def k0_off30 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c512 : Index := 512#32
  let c0_298 : Index := 0#32
  ![v421.toNat, 512, 0]
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c2_i32_286 : BitVec 32 := 2#32
  let v402 : BitVec 1 := Scalar.cmpi .eq v278 c2_i32_286
  let v403 : BitVec 32 := Scalar.extui v402
  let c0_i32_287 : BitVec 32 := 0#32
  let v404 : BitVec 1 := Scalar.cmpi .ne v403 c0_i32_287
  v404

def k0_off31 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c512 : Index := 512#32
  let c0_298 : Index := 0#32
  ![v421.toNat, 512, 0]
def k0_cond23 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c3_i32 : BitVec 32 := 3#32
  let v405 : BitVec 1 := Scalar.cmpi .sgt v278 c3_i32
  let v406 : BitVec 32 := Scalar.extui v405
  let c0_i32_288 : BitVec 32 := 0#32
  let v407 : BitVec 1 := Scalar.cmpi .ne v406 c0_i32_288
  v407

def k0_off32 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c768 : Index := 768#32
  let c0_298 : Index := 0#32
  ![v421.toNat, 768, 0]
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c3_i32_289 : BitVec 32 := 3#32
  let v408 : BitVec 1 := Scalar.cmpi .eq v278 c3_i32_289
  let v409 : BitVec 32 := Scalar.extui v408
  let c0_i32_290 : BitVec 32 := 0#32
  let v410 : BitVec 1 := Scalar.cmpi .ne v409 c0_i32_290
  v410

def k0_off33 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v421 : Index := Scalar.indexCast arg18
  let c768 : Index := 768#32
  let c0_298 : Index := 0#32
  ![v421.toNat, 768, 0]
def k0_off34 (k0_t3 : Fin k0_t3_loop.trips) : Fin 3 → Nat :=
  let c0_i32_179 : BitVec 32 := 0#32
  let c1_i32_181 : BitVec 32 := 1#32
  let arg18 : BitVec 32 := Scf.iv c0_i32_179 c1_i32_181 k0_t3
  let v416 : Index := Scalar.indexCast arg18
  let c0_295 : Index := 0#32
  let c0_296 : Index := 0#32
  ![v416.toNat, 0, 0]
def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v268 : BitVec 32 := Scalar.addi v2 c1_i32_169
  let c4_i32_170 : BitVec 32 := 4#32
  let c0_i32_171 : BitVec 32 := 0#32
  let v269 : BitVec 1 := Scalar.cmpi .eq c4_i32_170 c0_i32_171
  let c1_i32_172 : BitVec 32 := 1#32
  let v270 : BitVec 32 := Scalar.select v269 c1_i32_172 c4_i32_170
  let v271 : BitVec 32 := Scalar.remsi v268 v270
  let c0_i32_174 : BitVec 32 := 0#32
  let v273 : BitVec 1 := Scalar.cmpi .slt v271 c0_i32_174
  let c0_i32_175 : BitVec 32 := 0#32
  let v274 : BitVec 1 := Scalar.cmpi .slt v270 c0_i32_175
  let v275 : BitVec 1 := Scalar.xori v273 v274
  let c0_i32_173 : BitVec 32 := 0#32
  let v272 : BitVec 1 := Scalar.cmpi .ne v271 c0_i32_173
  let v276 : BitVec 1 := Scalar.andi v275 v272
  let v277 : BitVec 32 := Scalar.addi v271 v270
  let v278 : BitVec 32 := Scalar.select v276 v277 v271
  let c256_i32_198 : BitVec 32 := 256#32
  let v308 : BitVec 32 := Scalar.muli v278 c256_i32_198
  let c0_i32_206 : BitVec 32 := 0#32
  ![v308.toNat, 0]
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_202 : BitVec 32 := 1#32
  let v309 : BitVec 32 := Scalar.muli v25 c1_i32_202
  let v310 : BitVec 32 := Scalar.addi c0_i32_203 v309
  v310.toNat
@[reducible] def k0_t4_loop : Scf.Loop 32 :=
  let c0_i32_210 : BitVec 32 := 0#32
  let c8_i32_211 : BitVec 32 := 8#32
  let v322 : BitVec 32 := Scalar.addi c0_i32_210 c8_i32_211
  let c1_i32_212 : BitVec 32 := 1#32
  ⟨c0_i32_210, v322, c1_i32_212⟩
def k0_off36 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v372 : Index := Scalar.indexCast arg18
  let c0_266 : Index := 0#32
  let c0_267 : Index := 0#32
  ![v372.toNat, 0, 0]
def k0_cond25 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_276 : BitVec 32 := 0#32
  let v387 : BitVec 1 := Scalar.cmpi .sgt v2 c0_i32_276
  let v388 : BitVec 32 := Scalar.extui v387
  let c0_i32_277 : BitVec 32 := 0#32
  let v389 : BitVec 1 := Scalar.cmpi .ne v388 c0_i32_277
  v389

def k0_off37 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c0_298 : Index := 0#32
  let c0_299 : Index := 0#32
  ![v421.toNat, 0, 0]
def k0_cond26 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_278 : BitVec 32 := 0#32
  let v390 : BitVec 1 := Scalar.cmpi .eq v2 c0_i32_278
  let v391 : BitVec 32 := Scalar.extui v390
  let c0_i32_279 : BitVec 32 := 0#32
  let v392 : BitVec 1 := Scalar.cmpi .ne v391 c0_i32_279
  v392

def k0_off38 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c0_298 : Index := 0#32
  let c0_299 : Index := 0#32
  ![v421.toNat, 0, 0]
def k0_cond27 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_280 : BitVec 32 := 1#32
  let v393 : BitVec 1 := Scalar.cmpi .sgt v2 c1_i32_280
  let v394 : BitVec 32 := Scalar.extui v393
  let c0_i32_281 : BitVec 32 := 0#32
  let v395 : BitVec 1 := Scalar.cmpi .ne v394 c0_i32_281
  v395

def k0_off39 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c256 : Index := 256#32
  let c0_298 : Index := 0#32
  ![v421.toNat, 256, 0]
def k0_cond28 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_282 : BitVec 32 := 1#32
  let v396 : BitVec 1 := Scalar.cmpi .eq v2 c1_i32_282
  let v397 : BitVec 32 := Scalar.extui v396
  let c0_i32_283 : BitVec 32 := 0#32
  let v398 : BitVec 1 := Scalar.cmpi .ne v397 c0_i32_283
  v398

def k0_off40 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c256 : Index := 256#32
  let c0_298 : Index := 0#32
  ![v421.toNat, 256, 0]
def k0_cond29 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_284 : BitVec 32 := 2#32
  let v399 : BitVec 1 := Scalar.cmpi .sgt v2 c2_i32_284
  let v400 : BitVec 32 := Scalar.extui v399
  let c0_i32_285 : BitVec 32 := 0#32
  let v401 : BitVec 1 := Scalar.cmpi .ne v400 c0_i32_285
  v401

def k0_off41 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c512 : Index := 512#32
  let c0_298 : Index := 0#32
  ![v421.toNat, 512, 0]
def k0_cond30 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_286 : BitVec 32 := 2#32
  let v402 : BitVec 1 := Scalar.cmpi .eq v2 c2_i32_286
  let v403 : BitVec 32 := Scalar.extui v402
  let c0_i32_287 : BitVec 32 := 0#32
  let v404 : BitVec 1 := Scalar.cmpi .ne v403 c0_i32_287
  v404

def k0_off42 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c512 : Index := 512#32
  let c0_298 : Index := 0#32
  ![v421.toNat, 512, 0]
def k0_cond31 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v405 : BitVec 1 := Scalar.cmpi .sgt v2 c3_i32
  let v406 : BitVec 32 := Scalar.extui v405
  let c0_i32_288 : BitVec 32 := 0#32
  let v407 : BitVec 1 := Scalar.cmpi .ne v406 c0_i32_288
  v407

def k0_off43 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c768 : Index := 768#32
  let c0_298 : Index := 0#32
  ![v421.toNat, 768, 0]
def k0_cond32 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_289 : BitVec 32 := 3#32
  let v408 : BitVec 1 := Scalar.cmpi .eq v2 c3_i32_289
  let v409 : BitVec 32 := Scalar.extui v408
  let c0_i32_290 : BitVec 32 := 0#32
  let v410 : BitVec 1 := Scalar.cmpi .ne v409 c0_i32_290
  v410

def k0_off44 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v421 : Index := Scalar.indexCast arg18
  let c768 : Index := 768#32
  let c0_298 : Index := 0#32
  ![v421.toNat, 768, 0]
def k0_off45 (k0_t4 : Fin k0_t4_loop.trips) : Fin 3 → Nat :=
  let c0_i32_210 : BitVec 32 := 0#32
  let c1_i32_212 : BitVec 32 := 1#32
  let arg18 : BitVec 32 := Scf.iv c0_i32_210 c1_i32_212 k0_t4
  let v416 : Index := Scalar.indexCast arg18
  let c0_295 : Index := 0#32
  let c0_296 : Index := 0#32
  ![v416.toNat, 0, 0]
def k0_dev9 (d0 : Dev nD) : Nat :=
  let c0_i32_268_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_267_r0 : BitVec 32 := 1#32
  let v373_r0 : BitVec 32 := Scalar.muli v14 c1_i32_267_r0
  let v374_r0 : BitVec 32 := Scalar.addi c0_i32_268_r0 v373_r0
  v374_r0.toNat
def k0_dev10 (d0 : Dev nD) : Nat :=
  let c0_i32_271_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_270_r0 : BitVec 32 := 1#32
  let v375_r0 : BitVec 32 := Scalar.muli v25 c1_i32_270_r0
  let v376_r0 : BitVec 32 := Scalar.addi c0_i32_271_r0 v375_r0
  v376_r0.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x4096x32x128, .f32⟩
  | .hbm, ⟨3, _⟩ => ⟨S1x4096x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S1024x4096, .i32⟩
  | .hbm, ⟨48, _⟩ => ⟨S1024x4096, .i32⟩
  | .hbm, ⟨49, _⟩ => ⟨S1024x4096, .i1⟩
  | .hbm, ⟨50, _⟩ => ⟨S1x32x1024x4096, .f32⟩
  | .hbm, ⟨51, _⟩ => ⟨S_, .f32⟩
  | .hbm, ⟨52, _⟩ => ⟨S1x32x1024x4096, .f32⟩
  | .hbm, ⟨53, _⟩ => ⟨S1x32x1024x4096, .f32⟩
  | .hbm, ⟨54, _⟩ => ⟨S1x1x1024x4096, .i1⟩
  | .hbm, ⟨55, _⟩ => ⟨S_, .f32⟩
  | .hbm, ⟨56, _⟩ => ⟨S_, .f32⟩
  | .hbm, ⟨57, _⟩ => ⟨S1x32x1024x4096, .i1⟩
  | .hbm, ⟨58, _⟩ => ⟨S1x32x1024x4096, .f32⟩
  | .hbm, ⟨59, _⟩ => ⟨S1x32x1024x4096, .f32⟩
  | .hbm, ⟨60, _⟩ => ⟨S_, .f32⟩
  | .hbm, ⟨61, _⟩ => ⟨S1x32x1024, .f32⟩
  | .hbm, ⟨62, _⟩ => ⟨S1x32x1024x1, .f32⟩
  | .hbm, ⟨63, _⟩ => ⟨S1x32x1024x4096, .f32⟩
  | .hbm, ⟨64, _⟩ => ⟨S1x32x1024x4096, .f32⟩
  | .hbm, ⟨65, _⟩ => ⟨S1x32x1024x4096, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S1x32x1024, .f32⟩
  | .hbm, ⟨71, _⟩ => ⟨S1x32x1024x1, .f32⟩
  | .hbm, ⟨72, _⟩ => ⟨S_, .f32⟩
  | .hbm, ⟨73, _⟩ => ⟨S_, .f32⟩
  | .hbm, ⟨74, _⟩ => ⟨S1x32x1024x1, .i1⟩
  | .hbm, ⟨75, _⟩ => ⟨S1x32x1024x1, .f32⟩
  | .hbm, ⟨76, _⟩ => ⟨S1x32x1024x1, .f32⟩
  | .hbm, ⟨77, _⟩ => ⟨S1x32x1024x4096, .f32⟩
  | .hbm, ⟨78, _⟩ => ⟨S1x32x1024x4096, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S1x32x1024x4096, .i1⟩
  | .hbm, ⟨83, _⟩ => ⟨S1x32x1024x4096, .f32⟩
  | .hbm, ⟨84, _⟩ => ⟨S1x32x1024x4096, .f32⟩
  | .hbm, ⟨85, _⟩ => ⟨S1x32x128x1024, .f32⟩
  | .hbm, ⟨86, _⟩ => ⟨S1x1024x32x128, .f32⟩
  | .hbm, ⟨87, _⟩ => ⟨S1x1024x4096, .f32⟩
  | .hbm, ⟨88, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Base.lean ====
/-
  The rules of memory in the form this proof uses them: a core owns a memref at known contents
  (`owns`), loads a rectangle of it, stores over a rectangle it owns, and splits a buffer into
  rectangles and joins it again.
-/
module

public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.RegionTalk
public import Idealize.ShloMosaic.Lib.Tactic

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB
local notation "𝕄" => MT nD τ sig Unit (Elt F) ℕ UU ℕ
abbrev EP : Emb (UR sig nD τ) 𝕄 := embL
abbrev ER : Emb UB 𝕄 := embR
abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owns the elements of `m` at the share `q`, and reads `X` there. -/
abbrev own (c : Dev nD) {sp : Space} {s : Shape} {e : EltTy} (m : Memref sig .tc sp s e) (q : PosShare TreeShare)
    (X : s.Idx → Elt F e) : sProp 𝕄 :=
  owns (Ix := Unit) (Name := ℕ) (U := UU) (Lvl := ℕ) (c : Thread nD τ) m q X

/-- The part of a memref from `off` on, of the given sizes. -/
abbrev part {sp : Space} {s : Shape} {e : EltTy} (m : Memref sig .tc sp s e) (off size : Fin s.rank → Nat)
    (inb : ∀ a, off a + size a ≤ s.size a) : Memref sig .tc sp (Rect.unit (s := s) off size inb).shape e :=
  m.slice (Rect.unit (s := s) off size inb) (fun _ => rfl)

/-- The contents `X` from `off` on. -/
abbrev sub {s : Shape} {α : Type} (X : s.Idx → α) (off size : Fin s.rank → Nat)
    (inb : ∀ a, off a + size a ≤ s.size a) : (Rect.unit (s := s) off size inb).shape.Idx → α :=
  fun j => X ((Rect.unit (s := s) off size inb).emb j)

section Rules

variable (c : Dev nD) {s : Shape} {e : EltTy}

omit [FloatOps F] in
theorem own_cases {sp : Space} (m : Memref sig .tc sp s e) (q : PosShare TreeShare) (X : s.Idx → Elt F e) :
    (own c m q X : sProp 𝕄)
      ⊢ iprop(∃ f, ⌜m.view.read (Elt F) f = X⌝ ∗ (m.view.loc (c : Thread nD τ) ↦[m.view.set]{q} f)) := .rfl

omit [FloatOps F] in
theorem own_mk {sp : Space} (m : Memref sig .tc sp s e) (q : PosShare TreeShare) {X : s.Idx → Elt F e}
    {f : Buf (Elt F) (m.view.loc (c : Thread nD τ))} (hf : m.view.read (Elt F) f = X) :
    (m.view.loc (c : Thread nD τ) ↦[m.view.set]{q} f : sProp 𝕄) ⊢ own c m q X := by
  subst hf; exact owns_intro (c : Thread nD τ) m q f

/-- A load of the part of a memref the core owns. -/
theorem ld {α : Type} {Q : α → sProp 𝕄} {sp : CoreSpace} {m : Memref sig .tc sp s e} {off off' size : Fin s.rank → Nat} (h : off = off')
    {inb : ∀ a, off a + size a ≤ s.size a} {inb' : ∀ a, off' a + size a ≤ s.size a}
    {hl : m.view.LoadsAt (Rect.unit (s := s) off size inb).toLoadRect}
    {k : ((Rect.unit (s := s) off size inb).shape.Idx → Elt F e) → Prog (TpuEff nD τ sig (Elt F) Λ₀ .tc) α}
    {q : PosShare TreeShare} {X : (Rect.unit (s := s) off' size inb').shape.Idx → Elt F e} :
    (own c (part m off' size inb') q X : sProp 𝕄)
      ⊢ iprop((own c (part m off' size inb') q X -∗ WP c (k X) Q)
          -∗ WP c (.op (.load m (Rect.unit (s := s) off size inb).toLoadRect hl) k) Q) := by
  subst h
  iintro H Hk
  ihave H2 := (own_cases c (part m off size inb') q X) $$ H
  icases H2 with ⟨%f, %hf, H⟩
  iapply (wp_load_rect 𝒱₀ (c : Thread nD τ) none Set.univ (m := m) (r := Rect.unit (s := s) off size inb) (hl := hl)
    (Finset.Subset.refl _)) $$ H
  iintro H
  rw [show (m.access (Rect.unit (s := s) off size inb)).read (Elt F) f = X from hf]
  iapply Hk
  iapply (own_mk c (part m off size inb') q hf)
  iexact H

/-- A load of a part of a memref the core owns more of. -/
theorem ld_sub {α : Type} {Q : α → sProp 𝕄} {sp : CoreSpace} {m : Memref sig .tc sp s e} {off off' size : Fin s.rank → Nat} (h : off = off')
    {inb : ∀ a, off a + size a ≤ s.size a} {inb' : ∀ a, off' a + size a ≤ s.size a}
    {hl : m.view.LoadsAt (Rect.unit (s := s) off size inb).toLoadRect}
    {k : ((Rect.unit (s := s) off size inb).shape.Idx → Elt F e) → Prog (TpuEff nD τ sig (Elt F) Λ₀ .tc) α}
    {q : PosShare TreeShare} {X : s.Idx → Elt F e} :
    (own c m q X : sProp 𝕄)
      ⊢ iprop((own c m q X -∗ WP c (k (sub X off' size inb')) Q)
          -∗ WP c (.op (.load m (Rect.unit (s := s) off size inb).toLoadRect hl) k) Q) := by
  subst h
  iintro H Hk
  ihave H2 := (own_cases c m q X) $$ H
  icases H2 with ⟨%f, %hf, H⟩
  iapply (wp_load_rect 𝒱₀ (c : Thread nD τ) none Set.univ (m := m) (r := Rect.unit (s := s) off size inb) (hl := hl)
    (View.set_slice_subset _ _)) $$ H
  iintro H
  rw [show (m.access (Rect.unit (s := s) off size inb)).read (Elt F) f = sub X off size inb' from by
    rw [← hf]; rfl]
  iapply Hk
  iapply (own_mk c m q hf)
  iexact H

/-- A store over the whole of a part the core owns. -/
theorem st {α : Type} {Q : α → sProp 𝕄} {sp : CoreSpace} {m : Memref sig .tc sp s e} {off off' size : Fin s.rank → Nat} (h : off = off')
    {inb : ∀ a, off a + size a ≤ s.size a} {inb' : ∀ a, off' a + size a ≤ s.size a}
    {w : (Rect.unit (s := s) off size inb).shape.Idx → Elt F e}
    {hx : (m.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig (Elt F) Λ₀ .tc) α}
    {X : (Rect.unit (s := s) off' size inb').shape.Idx → Elt F e} :
    (own c (part m off' size inb') fullShare X : sProp 𝕄)
      ⊢ iprop((own c (part m off' size inb') fullShare w -∗ WP c (k ⟨⟩) Q)
          -∗ WP c (.op (.store m (Rect.unit (s := s) off size inb) w Finset.univ hx hm) k) Q) := by
  subst h
  iintro H Hk
  ihave H2 := (own_cases c (part m off size inb') fullShare X) $$ H
  icases H2 with ⟨%f, %hf, H⟩
  iapply (wp_store 𝒱₀ (c : Thread nD τ) none Set.univ (m := m) (r := Rect.unit (s := s) off size inb) (hx := hx) (hm := hm)
    (S := (part m off size inb').view.set) (f := f) (Finset.Subset.refl _)) $$ H
  iintro H
  iapply Hk
  iapply (own_mk c (part m off size inb') fullShare (View.read_write_univ _ _))
  iexact H

/-- A program that has returned. -/
theorem wp_done {α : Type} {Q : α → sProp 𝕄} (a : α) : Q a ⊢ WP c (.ret a) Q := by
  unfold WP
  rw [wp_ret]
  iintro H
  imodintro
  iexact H

/-- The part a memref has at an equal offset. -/
theorem own_off {sp : Space} {m : Memref sig .tc sp s e} {off off' size : Fin s.rank → Nat} (h : off = off')
    {inb : ∀ a, off a + size a ≤ s.size a} {inb' : ∀ a, off' a + size a ≤ s.size a} {q : PosShare TreeShare}
    {X : (Rect.unit (s := s) off size inb).shape.Idx → Elt F e} :
    (own c (part m off size inb) q X : sProp 𝕄) = own c (part m off' size inb') q X := by
  subst h; rfl

end Rules

end Cert.KernelIdealP
-- ==== Proof.KernelIdeal.Loop.lean ====
/-
  The head loop. All four attention steps run the same loop over the eight heads of a device, on
  different query blocks; `gbody` is that loop's body once, `wp_gbody` its rule, and `headsV` the
  value eight trips accumulate.
-/
module

public import proofs.«01_k».proof.Proof.KernelIdeal.Base

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev MV (s : Shape) (e : EltTy) : Type := Memref sig .tc .vmem s e
abbrev PR (α : Type) := Prog (TpuEff nD τ sig (Elt F) Λ₀ .tc) α

section Prog

variable (arg1 : MV S8x1024x128 .bf16) (arg4 : MV S8x128x1024 .bf16) (arg7 arg8 : MV S8x1024x128 .bf16)
  (arg11 : MV S256x128 .f32) (arg12 : MV S256x1 .f32)

/-- One block of keys: its keys and values are loaded, the denominator and the context updated. -/
def blk {α : Type} (off : Fin 3 → Nat) (inb : ∀ a, off a + S1x256x128.size a ≤ S8x1024x128.size a)
    (fd : Vec F S1x256x128 .bf16 → Vec F S256x1 .f32 → FVec F S256x1 .f32)
    (fc : Vec F S1x256x128 .bf16 → Vec F S1x256x128 .bf16 → Vec F S256x128 .f32 → FVec F S256x128 .f32)
    (k : PUnit.{1} → PR (F := F) α) : PR (F := F) α :=
  .op (.load arg7 (Rect.unit (s := S8x1024x128) off S1x256x128.size inb).toLoadRect (View.loadsAt_vmem h_S1x256x128)) fun kt =>
  .op (.load arg8 (Rect.unit (s := S8x1024x128) off S1x256x128.size inb).toLoadRect (View.loadsAt_vmem h_S1x256x128)) fun vt =>
  .op (.load arg12 (Rect.unit (s := S256x1) ![0, 0] S256x1.size inb_S256x1_S256x1_0_0).toLoadRect (View.loadsAt_vmem h_S256x1)) fun den =>
  .op (.load arg12 (Rect.unit (s := S256x1) ![0, 0] S256x1.size inb_S256x1_S256x1_0_0).toLoadRect (View.loadsAt_vmem h_S256x1)) fun _ =>
  .op (.store arg12 (Rect.unit (s := S256x1) ![0, 0] S256x1.size inb_S256x1_S256x1_0_0) (fd kt den) Finset.univ (View.stores_vmem_bits_univ h_S256x1 rfl) (.inl rfl)) fun _ =>
  .op (.load arg11 (Rect.unit (s := S256x128) ![0, 0] S256x128.size inb_S256x128_S256x128_0_0).toLoadRect (View.loadsAt_vmem h_S256x128)) fun ctx =>
  .op (.load arg11 (Rect.unit (s := S256x128) ![0, 0] S256x128.size inb_S256x128_S256x128_0_0).toLoadRect (View.loadsAt_vmem h_S256x128)) fun _ =>
  .op (.store arg11 (Rect.unit (s := S256x128) ![0, 0] S256x128.size inb_S256x128_S256x128_0_0) (fc kt vt ctx) Finset.univ (View.stores_vmem_bits_univ h_S256x128 rfl) (.inl rfl)) fun _ =>
  k ⟨⟩

/-- A block of keys no query of the block may look past: no mask. -/
def blkU {α : Type} (c : BitVec 1) (off : Fin 3 → Nat) (inb : c = 1#1 → ∀ a, off a + S1x256x128.size a ≤ S8x1024x128.size a)
    (qh : FVec F S256x128 .bf16) (k : PUnit.{1} → PR (F := F) α) : PR (F := F) α :=
  if h : c = 1#1 then blk arg7 arg8 arg11 arg12 off (inb h) (k0_pay83 qh) (k0_pay84 qh) k else k ⟨⟩

/-- The block on the diagonal, under its mask. -/
def blkM {α : Type} (mask : FVec F S256x256 .f32) (c : BitVec 1) (off : Fin 3 → Nat)
    (inb : c = 1#1 → ∀ a, off a + S1x256x128.size a ≤ S8x1024x128.size a)
    (qh : FVec F S256x128 .bf16) (k : PUnit.{1} → PR (F := F) α) : PR (F := F) α :=
  if h : c = 1#1 then blk arg7 arg8 arg11 arg12 off (inb h) (k0_pay80 mask qh) (k0_pay81 mask qh) k else k ⟨⟩

variable (mask : FVec F S256x256 .f32) (x : Vec F S256x1024 .bf16)

end Prog

/-- The eight cases of a trip: for each of the four blocks of keys, whether it lies before the query
    block, and whether it is the query block. -/
abbrev Cases : Type := Fin 8 → BitVec 1

abbrev Trips : Type := Fin k0_t1_loop.trips

theorem inb5 : ∀ (t : Trips) (a : Fin 3), k0_off5 t a + S1x256x128.size a ≤ S8x1024x128.size a := by decide +kernel
theorem inb6 : ∀ (t : Trips) (a : Fin 3), k0_off6 t a + S1x256x128.size a ≤ S8x1024x128.size a := by decide +kernel
theorem inb7 : ∀ (t : Trips) (a : Fin 3), k0_off7 t a + S1x256x128.size a ≤ S8x1024x128.size a := by decide +kernel
theorem inb8 : ∀ (t : Trips) (a : Fin 3), k0_off8 t a + S1x256x128.size a ≤ S8x1024x128.size a := by decide +kernel
theorem inb9 : ∀ (t : Trips) (a : Fin 3), k0_off9 t a + S1x256x128.size a ≤ S8x1024x128.size a := by decide +kernel
theorem inb10 : ∀ (t : Trips) (a : Fin 3), k0_off10 t a + S1x256x128.size a ≤ S8x1024x128.size a := by decide +kernel
theorem inb11 : ∀ (t : Trips) (a : Fin 3), k0_off11 t a + S1x256x128.size a ≤ S8x1024x128.size a := by decide +kernel
theorem inb12 : ∀ (t : Trips) (a : Fin 3), k0_off12 t a + S1x256x128.size a ≤ S8x1024x128.size a := by decide +kernel

section Prog

variable (arg1 : MV S8x1024x128 .bf16) (arg4 : MV S8x128x1024 .bf16) (arg7 arg8 : MV S8x1024x128 .bf16)
  (arg11 : MV S256x128 .f32) (arg12 : MV S256x1 .f32)
  (mask : FVec F S256x256 .f32) (x : Vec F S256x1024 .bf16) (c : Cases) (t : Trips)

/-- The first half of a trip: the head's queries, the scratch zeroed, five of the eight cases. -/
def gpart {α : Type} (k : FVec F S256x128 .bf16 → PR (F := F) α) : PR (F := F) α :=
  .op (.load arg1 (Rect.unit (s := S8x1024x128) (k0_off4 t) S1x1024x128.size (k0_off4_inb t)).toLoadRect (View.loadsAt_vmem h_S1x1024x128)) fun wq =>
  .op (.load arg11 (Rect.unit (s := S256x128) ![0, 0] S256x128.size inb_S256x128_S256x128_0_0).toLoadRect (View.loadsAt_vmem h_S256x128)) fun _ =>
  .op (.store arg11 (Rect.unit (s := S256x128) ![0, 0] S256x128.size inb_S256x128_S256x128_0_0) (k0_pay2 (F := F)) Finset.univ (View.stores_vmem_bits_univ h_S256x128 rfl) (.inl rfl)) fun _ =>
  .op (.load arg12 (Rect.unit (s := S256x1) ![0, 0] S256x1.size inb_S256x1_S256x1_0_0).toLoadRect (View.loadsAt_vmem h_S256x1)) fun _ =>
  .op (.store arg12 (Rect.unit (s := S256x1) ![0, 0] S256x1.size inb_S256x1_S256x1_0_0) (k0_pay3 (F := F)) Finset.univ (View.stores_vmem_bits_univ h_S256x1 rfl) (.inl rfl)) fun _ =>
  blkU arg7 arg8 arg11 arg12 (c 0) (k0_off5 t) (fun _ => inb5 t) (k0_pay1 x wq) fun _ =>
  blkM arg7 arg8 arg11 arg12 mask (c 1) (k0_off6 t) (fun _ => inb6 t) (k0_pay1 x wq) fun _ =>
  blkU arg7 arg8 arg11 arg12 (c 2) (k0_off7 t) (fun _ => inb7 t) (k0_pay1 x wq) fun _ =>
  blkM arg7 arg8 arg11 arg12 mask (c 3) (k0_off8 t) (fun _ => inb8 t) (k0_pay1 x wq) fun _ =>
  blkU arg7 arg8 arg11 arg12 (c 4) (k0_off9 t) (fun _ => inb9 t) (k0_pay1 x wq) fun _ =>
  k (k0_pay1 x wq)

/-- The other half: the last three cases, and the head's share of the output added. -/
def gtail (acc : FVec F S256x1024 .f32) (qh : FVec F S256x128 .bf16) : PR (F := F) (FVec F S256x1024 .f32) :=
  blkM arg7 arg8 arg11 arg12 mask (c 5) (k0_off10 t) (fun _ => inb10 t) qh fun _ =>
  blkU arg7 arg8 arg11 arg12 (c 6) (k0_off11 t) (fun _ => inb11 t) qh fun _ =>
  blkM arg7 arg8 arg11 arg12 mask (c 7) (k0_off12 t) (fun _ => inb12 t) qh fun _ =>
  .op (.load arg11 (Rect.unit (s := S256x128) ![0, 0] S256x128.size inb_S256x128_S256x128_0_0).toLoadRect (View.loadsAt_vmem h_S256x128)) fun ctx =>
  .op (.load arg12 (Rect.unit (s := S256x1) ![0, 0] S256x1.size inb_S256x1_S256x1_0_0).toLoadRect (View.loadsAt_vmem h_S256x1)) fun den =>
  .op (.load arg4 (Rect.unit (s := S8x128x1024) (k0_off13 t) S1x128x1024.size (k0_off13_inb t)).toLoadRect (View.loadsAt_vmem h_S1x128x1024)) fun wo =>
  .ret (k0_pay88 acc ctx den wo)

/-- One trip. -/
def gbody (acc : FVec F S256x1024 .f32) : PR (F := F) (FVec F S256x1024 .f32) :=
  gpart arg1 arg7 arg8 arg11 arg12 mask x c t fun qh => gtail arg4 arg7 arg8 arg11 arg12 mask c t acc qh

theorem blkU_bind {α β : Type} (c : BitVec 1) (off : Fin 3 → Nat) (inb : c = 1#1 → ∀ a, off a + S1x256x128.size a ≤ S8x1024x128.size a)
    (qh : FVec F S256x128 .bf16) (k : PUnit.{1} → PR (F := F) α) (kk : α → PR (F := F) β) :
    (blkU arg7 arg8 arg11 arg12 c off inb qh k >>= kk) = blkU arg7 arg8 arg11 arg12 c off inb qh fun u => k u >>= kk := by
  unfold blkU; split <;> rfl

theorem blkM_bind {α β : Type} (mask : FVec F S256x256 .f32) (c : BitVec 1) (off : Fin 3 → Nat)
    (inb : c = 1#1 → ∀ a, off a + S1x256x128.size a ≤ S8x1024x128.size a)
    (qh : FVec F S256x128 .bf16) (k : PUnit.{1} → PR (F := F) α) (kk : α → PR (F := F) β) :
    (blkM arg7 arg8 arg11 arg12 mask c off inb qh k >>= kk) = blkM arg7 arg8 arg11 arg12 mask c off inb qh fun u => k u >>= kk := by
  unfold blkM; split <;> rfl

theorem gpart_bind {α β : Type} (k : FVec F S256x128 .bf16 → PR (F := F) α) (kk : α → PR (F := F) β) :
    (gpart arg1 arg7 arg8 arg11 arg12 mask x c t k >>= kk)
      = gpart arg1 arg7 arg8 arg11 arg12 mask x c t fun qh => k qh >>= kk := by
  unfold gpart
  simp only [Prog.bind_op, blkU_bind, blkM_bind]

end Prog

section Same
variable (arg0 : Memref sig .tc .vmem S256x1024 .bf16) (harg0 : arg0.IsWhole) (arg1 : Memref sig .tc .vmem S8x1024x128 .bf16) (harg1 : arg1.IsWhole) (arg2 : Memref sig .tc .hbm S8x1024x128 .bf16) (harg2 : arg2.IsWhole) (arg3 : Memref sig .tc .hbm S8x1024x128 .bf16) (harg3 : arg3.IsWhole) (arg4 : Memref sig .tc .vmem S8x128x1024 .bf16) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S8x1024x128 .bf16) (harg7 : arg7.IsWhole) (arg8 : Memref sig .tc .vmem S8x1024x128 .bf16) (harg8 : arg8.IsWhole) (arg9 : Memref sig .tc .vmem S1024x1024 .bf16) (harg9 : arg9.IsWhole) (arg10 : Memref sig .tc .vmem S3x256x1024 .bf16) (harg10 : arg10.IsWhole) (arg11 : Memref sig .tc .vmem S256x128 .f32) (harg11 : arg11.IsWhole) (arg12 : Memref sig .tc .vmem S256x1 .f32) (harg12 : arg12.IsWhole) (arg13 : DmaSems sig S3) (arg14 : DmaSems sig S3) (arg15 : DmaSems sig S3) (arg16 : DmaSems sig S3) (arg17 : DmaSems sig S2) (v372_r0 : Sems sig S_) (d0 : Dev nD)

/-- The cases of loop 1 on device `d`. -/
def cs1 (d : Dev nD) : Cases := ![k0_cond1 d, k0_cond2 d, k0_cond3 d, k0_cond4 d, k0_cond5 d, k0_cond6 d, k0_cond7 d, k0_cond8 d]

set_option maxHeartbeats 1600000 in
set_option maxRecDepth 65536 in
theorem part1_eq (v94 : FVec F S256x256 .f32) (v160 : BitVec 32) (v163 : Vec F S256x1024 .bf16) (a b : BitVec 32) (t : Fin k0_t1_loop.trips) :
    k0_part1 (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v94 v160 v163 a b t
      = gpart arg1 arg7 arg8 arg11 arg12 v94 v163 (cs1 d0) t fun qh => .ret ⟨Scf.iv a b t, qh, Scalar.cmpi .eq v160 2#32⟩ := by
  rw [k0_part1_eq_skeleton]
  unfold k0_part1_skel
  extract_lets
  simp only [Prog.lift, Prog.bind_op, Prog.bind_ret]
  unfold gpart blkU blkM blk
  rfl

set_option maxRecDepth 65536 in
theorem body1_eq (v2 v25 : BitVec 32) (v94 : FVec F S256x256 .f32) (v160 : BitVec 32) (v163 : Vec F S256x1024 .bf16) (t : Fin k0_t1_loop.trips) (acc : FVec F S256x1024 .f32) :
    k0_t1_body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v2 v25 v94 v160 v163 t acc
      = gbody arg1 arg4 arg7 arg8 arg11 arg12 v94 v163 (cs1 d0) t acc := by
  unfold k0_t1_body
  simp only [part1_eq, gpart_bind]
  rfl

/-- The cases of loop 2 on device `d`. -/
def cs2 (d : Dev nD) : Cases := ![k0_cond9 d, k0_cond10 d, k0_cond11 d, k0_cond12 d, k0_cond13 d, k0_cond14 d, k0_cond15 d, k0_cond16 d]

set_option maxHeartbeats 1600000 in
set_option maxRecDepth 65536 in
theorem part2_eq (v94 : FVec F S256x256 .f32) (v160 : BitVec 32) (v163 : Vec F S256x1024 .bf16) (a b : BitVec 32) (t : Fin k0_t2_loop.trips) :
    k0_part2 (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v94 v160 v163 a b t
      = gpart arg1 arg7 arg8 arg11 arg12 v94 v163 (cs2 d0) t fun qh => .ret ⟨Scf.iv a b t, qh, Scalar.cmpi .eq v160 2#32⟩ := by
  rw [k0_part2_eq_skeleton]
  unfold k0_part2_skel
  extract_lets
  simp only [Prog.lift, Prog.bind_op, Prog.bind_ret]
  unfold gpart blkU blkM blk
  rfl

set_option maxRecDepth 65536 in
theorem body2_eq (v2 v25 : BitVec 32) (v94 : FVec F S256x256 .f32) (v160 : BitVec 32) (v163 : Vec F S256x1024 .bf16) (t : Fin k0_t2_loop.trips) (acc : FVec F S256x1024 .f32) :
    k0_t2_body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v2 v25 v94 v160 v163 t acc
      = gbody arg1 arg4 arg7 arg8 arg11 arg12 v94 v163 (cs2 d0) t acc := by
  unfold k0_t2_body
  simp only [part2_eq, gpart_bind]
  rfl

/-- The cases of loop 3 on device `d`. -/
def cs3 (d : Dev nD) : Cases := ![k0_cond17 d, k0_cond18 d, k0_cond19 d, k0_cond20 d, k0_cond21 d, k0_cond22 d, k0_cond23 d, k0_cond24 d]

set_option maxHeartbeats 1600000 in
set_option maxRecDepth 65536 in
theorem part3_eq (v94 : FVec F S256x256 .f32) (v160 : BitVec 32) (v163 : Vec F S256x1024 .bf16) (a b : BitVec 32) (t : Fin k0_t3_loop.trips) :
    k0_part3 (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v94 v160 v163 a b t
      = gpart arg1 arg7 arg8 arg11 arg12 v94 v163 (cs3 d0) t fun qh => .ret ⟨Scf.iv a b t, qh, Scalar.cmpi .eq v160 2#32⟩ := by
  rw [k0_part3_eq_skeleton]
  unfold k0_part3_skel
  extract_lets
  simp only [Prog.lift, Prog.bind_op, Prog.bind_ret]
  unfold gpart blkU blkM blk
  rfl

set_option maxRecDepth 65536 in
theorem body3_eq (v25 : BitVec 32) (v94 : FVec F S256x256 .f32) (v270 v271 : BitVec 32) (v272 v273 : BitVec 1) (v160 : BitVec 32) (v163 : Vec F S256x1024 .bf16) (t : Fin k0_t3_loop.trips) (acc : FVec F S256x1024 .f32) :
    k0_t3_body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v25 v94 v270 v271 v272 v273 v160 v163 t acc
      = gbody arg1 arg4 arg7 arg8 arg11 arg12 v94 v163 (cs3 d0) t acc := by
  unfold k0_t3_body
  simp only [part3_eq, gpart_bind]
  rfl

/-- The cases of loop 4 on device `d`. -/
def cs4 (d : Dev nD) : Cases := ![k0_cond25 d, k0_cond26 d, k0_cond27 d, k0_cond28 d, k0_cond29 d, k0_cond30 d, k0_cond31 d, k0_cond32 d]

set_option maxHeartbeats 1600000 in
set_option maxRecDepth 65536 in
theorem part4_eq (v94 : FVec F S256x256 .f32) (v160 : BitVec 32) (v163 : Vec F S256x1024 .bf16) (a b : BitVec 32) (t : Fin k0_t4_loop.trips) :
    k0_part4 (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v160 v94 v163 a b t
      = gpart arg1 arg7 arg8 arg11 arg12 v94 v163 (cs4 d0) t fun qh => .ret ⟨Scf.iv a b t, qh, Scalar.cmpi .eq v160 2#32⟩ := by
  rw [k0_part4_eq_skeleton]
  unfold k0_part4_skel
  extract_lets
  simp only [Prog.lift, Prog.bind_op, Prog.bind_ret]
  unfold gpart blkU blkM blk
  rfl

set_option maxRecDepth 65536 in
theorem body4_eq (v160 v25 : BitVec 32) (v94 : FVec F S256x256 .f32) (v278 : BitVec 32) (v307 : FVec F S256x1024 .bf16) (v163 : Vec F S256x1024 .bf16) (t : Fin k0_t4_loop.trips) (acc : FVec F S256x1024 .f32) :
    k0_t4_body (F := F) arg0 harg0 arg1 harg1 arg2 harg2 arg3 harg3 arg4 harg4 arg5 harg5 arg6 harg6 arg7 harg7 arg8 harg8 arg9 harg9 arg10 harg10 arg11 harg11 arg12 harg12 arg13 arg14 arg15 arg16 arg17 v372_r0 d0 v160 v25 v94 v278 v307 v163 t acc
      = gbody arg1 arg4 arg7 arg8 arg11 arg12 v94 v163 (cs4 d0) t acc := by
  unfold k0_t4_body
  simp only [part4_eq, gpart_bind]
  rfl

end Same

/-! ## The value of a trip, and its rule -/

section Value
variable (mask : FVec F S256x256 .f32) (x : Vec F S256x1024 .bf16) (WQ : Vec F S8x1024x128 .bf16) (WO : Vec F S8x128x1024 .bf16)
  (KB VB : Vec F S8x1024x128 .bf16)

/-- Denominator and context. -/
abbrev DC (F : FTy → Type) : Type := Vec F S256x1 .f32 × Vec F S256x128 .f32

/-- What an unmasked case leaves of denominator and context. -/
def vU (c : BitVec 1) (off : Fin 3 → Nat) (inb : ∀ a, off a + S1x256x128.size a ≤ S8x1024x128.size a)
    (qh : FVec F S256x128 .bf16) (p : DC F) : DC F :=
  if c = 1#1 then (k0_pay83 qh (sub KB off S1x256x128.size inb) p.1, k0_pay84 qh (sub KB off S1x256x128.size inb) (sub VB off S1x256x128.size inb) p.2) else p

/-- What a masked case leaves of denominator and context. -/
def vM (c : BitVec 1) (off : Fin 3 → Nat) (inb : ∀ a, off a + S1x256x128.size a ≤ S8x1024x128.size a)
    (qh : FVec F S256x128 .bf16) (p : DC F) : DC F :=
  if c = 1#1 then (k0_pay80 mask qh (sub KB off S1x256x128.size inb) p.1, k0_pay81 mask qh (sub KB off S1x256x128.size inb) (sub VB off S1x256x128.size inb) p.2) else p

/-- Denominator and context after the eight cases of trip `t`. -/
abbrev dcV (c : Cases) (t : Trips) (qh : FVec F S256x128 .bf16) : DC F :=
  vM mask KB VB (c 7) (k0_off12 t) (inb12 t) qh <| vU KB VB (c 6) (k0_off11 t) (inb11 t) qh <|
  vM mask KB VB (c 5) (k0_off10 t) (inb10 t) qh <| vU KB VB (c 4) (k0_off9 t) (inb9 t) qh <|
  vM mask KB VB (c 3) (k0_off8 t) (inb8 t) qh <| vU KB VB (c 2) (k0_off7 t) (inb7 t) qh <|
  vM mask KB VB (c 1) (k0_off6 t) (inb6 t) qh <| vU KB VB (c 0) (k0_off5 t) (inb5 t) qh (k0_pay3, k0_pay2)

/-- The queries of head `t`. -/
abbrev qV (t : Trips) : FVec F S256x128 .bf16 := k0_pay1 x (sub WQ (k0_off4 t) S1x1024x128.size (k0_off4_inb t))

/-- What a trip makes of the accumulator. -/
def headV (c : Cases) (t : Trips) (acc : FVec F S256x1024 .f32) : FVec F S256x1024 .f32 :=
  k0_pay88 acc (dcV mask KB VB c t (qV x WQ t)).2 (dcV mask KB VB c t (qV x WQ t)).1
    (sub WO (k0_off13 t) S1x128x1024.size (k0_off13_inb t))

/-- The accumulator after `n` trips. -/
def accV (c : Cases) : ℕ → FVec F S256x1024 .f32
  | 0 => k0_pay78
  | n + 1 => if h : n < k0_t1_loop.trips then headV mask x WQ WO KB VB c ⟨n, h⟩ (accV c n) else accV c n

/-- The accumulator after all heads. -/
def headsV (c : Cases) : FVec F S256x1024 .f32 := accV mask x WQ WO KB VB c k0_t1_loop.trips

end Value

section Wp

variable (d : Dev nD) (arg1 : MV S8x1024x128 .bf16) (arg4 : MV S8x128x1024 .bf16) (arg7 arg8 : MV S8x1024x128 .bf16)
  (arg11 : MV S256x128 .f32) (arg12 : MV S256x1 .f32)
  (mask : FVec F S256x256 .f32) (x : Vec F S256x1024 .bf16) (WQ : Vec F S8x1024x128 .bf16) (WO : Vec F S8x128x1024 .bf16)
  (KB VB : Vec F S8x1024x128 .bf16)

/-- Keys, values, denominator and context, owned. -/
def kvdc (p : DC F) : sProp 𝕄 :=
  iprop(own d arg7 fullShare KB ∗ own d arg8 fullShare VB
    ∗ own d (part arg12 ![0, 0] S256x1.size inb_S256x1_S256x1_0_0) fullShare p.1
    ∗ own d (part arg11 ![0, 0] S256x128.size inb_S256x128_S256x128_0_0) fullShare p.2)

theorem wp_blk {α : Type} {Q : α → sProp 𝕄} (off : Fin 3 → Nat) (inb inb' : ∀ a, off a + S1x256x128.size a ≤ S8x1024x128.size a)
    (fd : Vec F S1x256x128 .bf16 → Vec F S256x1 .f32 → FVec F S256x1 .f32)
    (fc : Vec F S1x256x128 .bf16 → Vec F S1x256x128 .bf16 → Vec F S256x128 .f32 → FVec F S256x128 .f32)
    (k : PUnit.{1} → PR (F := F) α) (p : DC F) :
    (kvdc d arg7 arg8 arg11 arg12 KB VB p : sProp 𝕄)
      ⊢ iprop((kvdc d arg7 arg8 arg11 arg12 KB VB
            (fd (sub KB off S1x256x128.size inb') p.1, fc (sub KB off S1x256x128.size inb') (sub VB off S1x256x128.size inb') p.2)
            -∗ WP d (k ⟨⟩) Q)
          -∗ WP d (blk arg7 arg8 arg11 arg12 off inb fd fc k) Q) := by
  unfold kvdc blk
  iintro ⟨H7, H8, H12, H11⟩ Hk
  iapply (ld_sub d rfl (inb' := inb')) $$ H7; iintro H7
  iapply (ld_sub d rfl (inb' := inb')) $$ H8; iintro H8
  iapply (ld d rfl) $$ H12; iintro H12
  iapply (ld d rfl) $$ H12; iintro H12
  iapply (st d rfl) $$ H12; iintro H12
  iapply (ld d rfl) $$ H11; iintro H11
  iapply (ld d rfl) $$ H11; iintro H11
  iapply (st d rfl) $$ H11; iintro H11
  iapply Hk
  isplitl [H7]; · iexact H7
  isplitl [H8]; · iexact H8
  isplitl [H12]; · iexact H12
  iexact H11

theorem wp_blkU {α : Type} {Q : α → sProp 𝕄} (c : BitVec 1) (off : Fin 3 → Nat) (inb : c = 1#1 → ∀ a, off a + S1x256x128.size a ≤ S8x1024x128.size a)
    (inb' : ∀ a, off a + S1x256x128.size a ≤ S8x1024x128.size a) (qh : FVec F S256x128 .bf16)
    (k : PUnit.{1} → PR (F := F) α) (p : DC F) :
    (kvdc d arg7 arg8 arg11 arg12 KB VB p : sProp 𝕄)
      ⊢ iprop((kvdc d arg7 arg8 arg11 arg12 KB VB (vU KB VB c off inb' qh p) -∗ WP d (k ⟨⟩) Q)
          -∗ WP d (blkU arg7 arg8 arg11 arg12 c off inb qh k) Q) := by
  unfold blkU vU
  by_cases h : c = 1#1
  · rw [dif_pos h, if_pos h]; exact wp_blk d arg7 arg8 arg11 arg12 KB VB off (inb h) inb' _ _ k p
  · rw [dif_neg h, if_neg h]; iintro H Hk; iapply Hk; iexact H

theorem wp_blkM {α : Type} {Q : α → sProp 𝕄} (c : BitVec 1) (off : Fin 3 → Nat) (inb : c = 1#1 → ∀ a, off a + S1x256x128.size a ≤ S8x1024x128.size a)
    (inb' : ∀ a, off a + S1x256x128.size a ≤ S8x1024x128.size a) (qh : FVec F S256x128 .bf16)
    (k : PUnit.{1} → PR (F := F) α) (p : DC F) :
    (kvdc d arg7 arg8 arg11 arg12 KB VB p : sProp 𝕄)
      ⊢ iprop((kvdc d arg7 arg8 arg11 arg12 KB VB (vM mask KB VB c off inb' qh p) -∗ WP d (k ⟨⟩) Q)
          -∗ WP d (blkM arg7 arg8 arg11 arg12 mask c off inb qh k) Q) := by
  unfold blkM vM
  by_cases h : c = 1#1
  · rw [dif_pos h, if_pos h]; exact wp_blk d arg7 arg8 arg11 arg12 KB VB off (inb h) inb' _ _ k p
  · rw [dif_neg h, if_neg h]; iintro H Hk; iapply Hk; iexact H

/-- The loop's holdings: weights and the scratch. -/
def wkvdc (p : DC F) : sProp 𝕄 :=
  iprop(own d arg1 fullShare WQ ∗ own d arg4 fullShare WO ∗ kvdc d arg7 arg8 arg11 arg12 KB VB p)

/-- One trip: any denominator and context before, some after, the accumulator by `headV`. -/
theorem wp_gbody (c : Cases) (t : Trips) (acc : FVec F S256x1024 .f32) (Q : FVec F S256x1024 .f32 → sProp 𝕄) :
    iprop((∃ p, wkvdc d arg1 arg4 arg7 arg8 arg11 arg12 WQ WO KB VB p)
        ∗ ((∃ p, wkvdc d arg1 arg4 arg7 arg8 arg11 arg12 WQ WO KB VB p) -∗ Q (headV mask x WQ WO KB VB c t acc)))
      ⊢ WP d (gbody arg1 arg4 arg7 arg8 arg11 arg12 mask x c t acc) Q := by
  unfold wkvdc gbody gpart headV
  iintro ⟨⟨%p, H1, H4, H⟩, HQ⟩
  iapply (ld_sub d rfl (inb' := k0_off4_inb t)) $$ H1; iintro H1
  unfold kvdc
  icases H with ⟨H7, H8, H12, H11⟩
  iapply (ld d rfl) $$ H11; iintro H11
  iapply (st d rfl) $$ H11; iintro H11
  iapply (ld d rfl) $$ H12; iintro H12
  iapply (st d rfl) $$ H12; iintro H12
  ihave H := (show iprop(own d arg7 fullShare KB ∗ own d arg8 fullShare VB
      ∗ own d (part arg12 ![0, 0] S256x1.size inb_S256x1_S256x1_0_0) fullShare (k0_pay3 (F := F))
      ∗ own d (part arg11 ![0, 0] S256x128.size inb_S256x128_S256x128_0_0) fullShare (k0_pay2 (F := F)))
      ⊢ kvdc d arg7 arg8 arg11 arg12 KB VB (k0_pay3, k0_pay2) from .rfl) $$ [H7 H8 H12 H11]
  · isplitl [H7]; · iexact H7
    isplitl [H8]; · iexact H8
    isplitl [H12]; · iexact H12
    iexact H11
  iapply (wp_blkU d arg7 arg8 arg11 arg12 KB VB (c 0) (k0_off5 t) _ (inb5 t)) $$ H; iintro H
  iapply (wp_blkM d arg7 arg8 arg11 arg12 mask KB VB (c 1) (k0_off6 t) _ (inb6 t)) $$ H; iintro H
  iapply (wp_blkU d arg7 arg8 arg11 arg12 KB VB (c 2) (k0_off7 t) _ (inb7 t)) $$ H; iintro H
  iapply (wp_blkM d arg7 arg8 arg11 arg12 mask KB VB (c 3) (k0_off8 t) _ (inb8 t)) $$ H; iintro H
  iapply (wp_blkU d arg7 arg8 arg11 arg12 KB VB (c 4) (k0_off9 t) _ (inb9 t)) $$ H; iintro H
  unfold gtail
  iapply (wp_blkM d arg7 arg8 arg11 arg12 mask KB VB (c 5) (k0_off10 t) _ (inb10 t)) $$ H; iintro H
  iapply (wp_blkU d arg7 arg8 arg11 arg12 KB VB (c 6) (k0_off11 t) _ (inb11 t)) $$ H; iintro H
  iapply (wp_blkM d arg7 arg8 arg11 arg12 mask KB VB (c 7) (k0_off12 t) _ (inb12 t)) $$ H; iintro H
  unfold kvdc
  icases H with ⟨H7, H8, H12, H11⟩
  iapply (ld d rfl) $$ H11; iintro H11
  iapply (ld d rfl) $$ H12; iintro H12
  iapply (ld_sub d rfl (inb' := k0_off13_inb t)) $$ H4; iintro H4
  iapply (wp_done d)
  ihave HQ := HQ $$ [H1 H4 H7 H8 H12 H11]
  · iexists (dcV mask KB VB c t (qV x WQ t))
    isplitl [H1]; · iexact H1
    isplitl [H4]; · iexact H4
    isplitl [H7]; · iexact H7
    isplitl [H8]; · iexact H8
    isplitl [H12]; · iexact H12
    iexact H11
  iexact HQ

theorem trips8 : k0_t1_loop.trips = 8 := by decide +kernel

/-- The loop's state before trip `n`. -/
def loopI (c : Cases) (n : ℕ) (acc : FVec F S256x1024 .f32) : sProp 𝕄 :=
  iprop(⌜acc = accV mask x WQ WO KB VB c n⌝ ∗ ∃ p, wkvdc d arg1 arg4 arg7 arg8 arg11 arg12 WQ WO KB VB p)

theorem loop_step (c : Cases) (t : Trips) (acc : FVec F S256x1024 .f32) :
    loopI d arg1 arg4 arg7 arg8 arg11 arg12 mask x WQ WO KB VB c t.val acc
      ⊢ WP d (gbody arg1 arg4 arg7 arg8 arg11 arg12 mask x c t acc)
          (loopI d arg1 arg4 arg7 arg8 arg11 arg12 mask x WQ WO KB VB c (t.val + 1)) := by
  unfold loopI
  iintro ⟨%h, H⟩
  subst h
  iapply (wp_gbody d arg1 arg4 arg7 arg8 arg11 arg12 mask x WQ WO KB VB c t)
  isplitl [H]; · iexact H
  iintro H
  isplitr
  · ipureintro
    rw [accV, dif_pos t.isLt]
  · iexact H

/-- The loop, its body known to be `gbody`: from any denominator and context, the accumulator ends at `headsV`. -/
theorem wp_loop {α : Type} {Q : α → sProp 𝕄} (c : Cases) (l : Scf.Loop 32) (hl : l = k0_t1_loop) (hok : l.OK) (init : FVec F S256x1024 .f32)
    (hinit : init = k0_pay78)
    (body : Fin l.trips → FVec F S256x1024 .f32 → PR (F := F) (FVec F S256x1024 .f32))
    (hbody : ∀ (t : Fin l.trips) acc, body t acc = gbody arg1 arg4 arg7 arg8 arg11 arg12 mask x c (t.cast (congrArg Scf.Loop.trips hl)) acc)
    (k : FVec F S256x1024 .f32 → PR (F := F) α) :
    iprop(∃ p, wkvdc d arg1 arg4 arg7 arg8 arg11 arg12 WQ WO KB VB p)
      ⊢ iprop(((∃ p, wkvdc d arg1 arg4 arg7 arg8 arg11 arg12 WQ WO KB VB p) -∗ WP d (k (headsV mask x WQ WO KB VB c)) Q)
          -∗ WP d (Scf.Loop.for l hok init body >>= k) Q) := by
  subst hl hinit
  iintro H Hk
  iapply (Scf.wp_for_bind frame (wpE (defs₀ (F := F)) 𝒱₀ (d : Thread nD τ) none) Set.univ k0_t1_loop.lb k0_t1_loop.ub k0_t1_loop.st hok
    k0_pay78 body (loopI d arg1 arg4 arg7 arg8 arg11 arg12 mask x WQ WO KB VB c)
    (fun t acc => by rw [hbody t acc]; exact loop_step d arg1 arg4 arg7 arg8 arg11 arg12 mask x WQ WO KB VB c t acc)) $$ [H]
  · unfold loopI
    isplitr
    · ipureintro; rfl
    · iexact H
  iintro %acc HI
  unfold loopI
  icases HI with ⟨%h, H⟩
  subst h
  iapply Hk
  iexact H

end Wp

end Cert.KernelIdealP
-- ==== Proof.KernelIdeal.Sched.lean ====
/-
  The protocol of the kernel's transfers: the cells (a core's semaphores), who pays each and with what,
  in which order, what the copies carry, and the rules of its signals, copies and waits.
-/
module

public import proofs.«01_k».proof.Proof.KernelIdeal.Loop

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The ring -/

/-- The device `k` places before `c`. -/
def back (c : Dev nD) (k : ℕ) : Dev nD := ⟨(c.val + 3 * k) % 4, Nat.mod_lt _ (by decide)⟩
abbrev lft (c : Dev nD) : Dev nD := back c 1
/-- The device after `c`. -/
abbrev nxt (c : Dev nD) : Dev nD := back c 3

theorem nxt_lft : ∀ c : Dev nD, nxt (lft c) = c := by decide
theorem lft_nxt : ∀ c : Dev nD, lft (nxt c) = c := by decide
theorem back_zero : ∀ c : Dev nD, back c 0 = c := by decide
theorem back_nxt : ∀ (c : Dev nD) (h : Fin 3), back (nxt c) (h.val + 1) = back c h.val := by decide

def ringEquiv : Dev nD ≃ Dev nD := ⟨nxt, lft, lft_nxt, nxt_lft⟩

theorem dev1_eq : ∀ c : Dev nD, (⟨k0_dev1 c, k0_dev1_lt c⟩ : Dev nD) = lft c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = nxt c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = nxt c := by decide +kernel
theorem dev9_eq : ∀ c : Dev nD, (⟨k0_dev9 c, k0_dev9_lt c⟩ : Dev nD) = lft c := by decide +kernel
theorem dev10_eq : ∀ c : Dev nD, (⟨k0_dev10 c, k0_dev10_lt c⟩ : Dev nD) = nxt c := by decide +kernel

/-! ## The buffers -/

abbrev kHbm : Memref sig .tc .hbm S8x1024x128 .bf16 := Memref.whole main_v25
abbrev vHbm : Memref sig .tc .hbm S8x1024x128 .bf16 := Memref.whole main_v27
abbrev xfull : Memref sig .tc .vmem S1024x1024 .bf16 := Memref.whole cc0_scratch0
abbrev kbuf : Memref sig .tc .vmem S8x1024x128 .bf16 := Memref.whole cc0_scratch1
abbrev vbuf : Memref sig .tc .vmem S8x1024x128 .bf16 := Memref.whole cc0_scratch2
abbrev pbuf : Memref sig .tc .vmem S1024x1024 .bf16 := Memref.whole cc0_scratch3
abbrev rbuf : Memref sig .tc .vmem S3x256x1024 .bf16 := Memref.whole cc0_scratch4
abbrev cbuf : Memref sig .tc .vmem S256x128 .f32 := Memref.whole cc0_scratch5
abbrev dbuf : Memref sig .tc .vmem S256x1 .f32 := Memref.whole cc0_scratch6

abbrev bOff (b : Dev nD) : Fin 2 → Nat := ![256 * b.val, 0]
theorem bOff_inb : ∀ (b : Dev nD) (a : Fin 2), bOff b a + S256x1024.size a ≤ S1024x1024.size a := by decide
/-- The 256 rows of a 1024×1024 buffer that belong to device `b`. -/
abbrev rows (m : Memref sig .tc .vmem S1024x1024 .bf16) (b : Dev nD) : Memref sig .tc .vmem S256x1024 .bf16 :=
  part m (bOff b) S256x1024.size (bOff_inb b)

theorem sOff_inb : ∀ (s : Fin 3) (a : Fin 3), (![s.val, 0, 0] : Fin 3 → Nat) a + S1x256x1024.size a ≤ S3x256x1024.size a := by decide
/-- Landing slot `s` of the partial sums, as the load and as the copies address it. -/
abbrev slot3 (s : Fin 3) : Memref sig .tc .vmem S1x256x1024 .bf16 := part rbuf ![s.val, 0, 0] S1x256x1024.size (sOff_inb s)
abbrev slot (s : Fin 3) : Memref sig .tc .vmem S256x1024 .bf16 := (slot3 s).squeeze S256x1024 squeezes_S1x256x1024_S256x1024

theorem off1_eq : ∀ c : Dev nD, k0_off1 c = bOff (back c 0) := by decide +kernel
theorem off2_eq0 : ∀ c : Dev nD, k0_off2 c 0#32 = bOff (back c 0) := by decide +kernel
theorem off2_eq1 : ∀ c : Dev nD, k0_off2 c 1#32 = bOff (back c 1) := by decide +kernel
theorem off2_eq2 : ∀ c : Dev nD, k0_off2 c 2#32 = bOff (back c 2) := by decide +kernel
theorem off3_eq1 : ∀ c : Dev nD, k0_off3 c 1#32 = bOff (back c 1) := by decide +kernel
theorem off3_eq2 : ∀ c : Dev nD, k0_off3 c 2#32 = bOff (back c 2) := by decide +kernel
theorem off24_eq : ∀ c : Dev nD, k0_off24 c = bOff (back c 3) := by decide +kernel
theorem off35_eq : ∀ c : Dev nD, k0_off35 c = bOff (back c 3) := by decide +kernel

/-! ## The values -/

/-- What a device's kernel is entered with: its rows of the activations, its columns of the query weights, its
    heads' keys and values, its rows of the output weights. -/
structure Inp (F : FTy → Type) [FloatOps F] where
  x : Vec F S256x1024 .bf16
  wq : Vec F S8x1024x128 .bf16
  kb : Vec F S8x1024x128 .bf16
  vb : Vec F S8x1024x128 .bf16
  wo : Vec F S8x128x1024 .bf16

/-- The mask of a diagonal block of the scores. -/
abbrev msk : FVec F S256x256 .f32 :=
  k0_pay77 (F := F) k0_pay74 (iota .tc S256x256 32 [0] iota_S256x256_d0_w32) 64#32 k0_pay75 k0_pay76

variable (A : Dev nD → Inp F)

/-- Device `d`'s rows of the activations. -/
def xv (d : Dev nD) : Vec F S256x1024 .bf16 := k0_pay73 (A d).x
/-- Device `d`'s heads' share of the rows of device `b`, before the rounding. -/
def AC (d b : Dev nD) : FVec F S256x1024 .f32 :=
  headsV msk (xv A b) (A d).wq (A d).wo (A d).kb (A d).vb (cs4 b)
/-- The same rounded. -/
def PC (d b : Dev nD) : Vec F S256x1024 .bf16 := k0_pay89 (AC A d b)
/-- The contents of a slot as a load of it reads them. -/
def uns (X : Vec F S256x1024 .bf16) : Vec F S1x256x1024 .bf16 :=
  fun j => X ((Shape.reshapeEquiv (Shape.Squeezes.numel_eq (s := S1x256x1024) (s' := S256x1024) squeezes_S1x256x1024_S256x1024)).symm j)
def R0 (c : Dev nD) : Vec F S256x1024 .bf16 := PC A (back c 1) (back c 2)
def R1 (c : Dev nD) : Vec F S256x1024 .bf16 := k0_pay102 (PC A (back c 1) (back c 3)) (uns (R0 A (back c 1)))
def R2 (c : Dev nD) : Vec F S256x1024 .bf16 := k0_pay115 (PC A (back c 1) c) (uns (R1 A (back c 1)))
/-- What lands in slot `s` of device `c`. -/
def RV (s : Fin 3) (c : Dev nD) : Vec F S256x1024 .bf16 := match s with | 0 => R0 A c | 1 => R1 A c | 2 => R2 A c
/-- What device `c` returns: its rows of the sum over the devices. -/
def outV (c : Dev nD) : FVec F S256x1024 .f32 := k0_pay128 (PC A c c) (uns (R2 A c))

theorem cs1_eq : ∀ c : Dev nD, cs1 c = cs4 (back c 1) := by decide +kernel
theorem cs2_eq : ∀ c : Dev nD, cs2 c = cs4 (back c 2) := by decide +kernel
theorem cs3_eq : ∀ c : Dev nD, cs3 c = cs4 (back c 3) := by decide +kernel

/-! ## The cells -/

/-- The core's semaphores of the protocol: the barrier's, the exit's, and the copies' fourteen. -/
def sm (k : Fin 16) : SemLoc sig :=
  if k.val = 0 then .reg ⟨0, by decide⟩ else if k.val = 1 then .reg ⟨1, by decide⟩ else .dma ⟨k.val + 2, by have := k.isLt; show _ < 18; omega⟩
def ix : SemLoc sig → Option (Fin 16)
  | .reg i => if i.val = 0 then some 0 else if i.val = 1 then some 1 else none
  | .dma i => if h : 4 ≤ i.val ∧ i.val < 18 then some ⟨i.val - 2, by omega⟩ else none
theorem ix_sm : ∀ k, ix (sm k) = some k := by decide
theorem sm_inj : Function.Injective sm := fun a b h => by
  have := congrArg ix h; rw [ix_sm, ix_sm] at this; exact Option.some.inj this

abbrev bar : Fin 16 := 0
abbrev ext : Fin 16 := 1
abbrev ags (h : Fin 3) : Fin 16 := ⟨2 + h.val, by omega⟩
abbrev agr (h : Fin 3) : Fin 16 := ⟨5 + h.val, by omega⟩
abbrev rss (h : Fin 3) : Fin 16 := ⟨8 + h.val, by omega⟩
abbrev rsr (h : Fin 3) : Fin 16 := ⟨11 + h.val, by omega⟩
abbrev kvc (h : Fin 2) : Fin 16 := ⟨14 + h.val, by omega⟩

abbrev cell (c : Dev nD) (k : Fin 16) : GSem nD τ sig := ((c : Thread nD τ), sm k)

/-- The units a copy of 256 rows completes with, and a copy of a device's keys or values. -/
def Nb : ℕ := (rows xfull 0).view.dmaCredit
def Nk : ℕ := (kbuf : Memref sig .tc .vmem S8x1024x128 .bf16).view.dmaCredit
theorem Nb_pos : 0 < Nb := View.dmaCredit_pos _ (by decide)
theorem Nk_pos : 0 < Nk := View.dmaCredit_pos _ (by decide)

/-- Some contents. -/
abbrev any (c : Dev nD) {sp : Space} {s : Shape} {e : EltTy} (m : Memref sig .tc sp s e) : sProp 𝕄 :=
  iprop(∃ X, own c m fullShare X)

/-- What device `d` sends around with the barrier: where the rows and the partial sums of device `c`, the one before,
    may land, and that its receiving cells are open. -/
def landing (d c : Dev nD) : sProp 𝕄 :=
  iprop((any d (rows xfull (back c 0)) ∗ any d (rows xfull (back c 1)) ∗ any d (rows xfull (back c 2)))
    ∗ (any d (slot 0) ∗ any d (slot 1) ∗ any d (slot 2))
    ∗ bigSep (Finset.univ : Finset (Fin 15)) fun k => reached ER (cell d k.succ) 0)

/-- What a duty of a cell of device `c` pays. -/
def pay (c : Dev nD) (k : Fin 16) (d : Bool) : sProp 𝕄 :=
  if k = 0 then (if d then landing (nxt c) c else iprop(reached ER (cell (back c 1) ext) 0))
  else if k = 1 then iprop(emp)
  else if k = ags 0 then own c (rows xfull (back c 0)) fullShare.left (xv A (back c 0))
  else if k = ags 1 then own c (rows xfull (back c 1)) fullShare.left (xv A (back c 1))
  else if k = ags 2 then own c (rows xfull (back c 2)) fullShare.left (xv A (back c 2))
  else if k = agr 0 then own c (rows xfull (back c 1)) fullShare (xv A (back c 1))
  else if k = agr 1 then own c (rows xfull (back c 2)) fullShare (xv A (back c 2))
  else if k = agr 2 then own c (rows xfull (back c 3)) fullShare (xv A (back c 3))
  else if k = rss 0 then any c (rows pbuf (back c 1))
  else if k = rss 1 then any c (rows pbuf (back c 2))
  else if k = rss 2 then any c (rows pbuf (back c 3))
  else if k = rsr 0 then own c (slot 0) fullShare (RV A 0 c)
  else if k = rsr 1 then own c (slot 1) fullShare (RV A 1 c)
  else if k = rsr 2 then own c (slot 2) fullShare (RV A 2 c)
  else if k = kvc 0 then iprop(own c kbuf fullShare (A c).kb ∗ own c kHbm fullShare (A c).kb)
  else iprop(own c vbuf fullShare (A c).vb ∗ own c vHbm fullShare (A c).vb)

def dut (k : Fin 16) : Finset Bool := if k.val < 2 then {false, true} else {false}
def amt (k : Fin 16) : ℕ := if k.val < 2 then 1 else if k.val < 14 then Nb else Nk
def tot (k : Fin 16) : ℕ := if k.val < 2 then 2 else if k.val < 14 then Nb else Nk
theorem amt_pos (k : Fin 16) : 0 < amt k := by
  unfold amt; split
  · exact Nat.one_pos
  · split
    · exact Nb_pos
    · exact Nk_pos

/-- One round on each cell. -/
def sched : Rounds.Schedule (GSem nD τ sig) Bool 𝕄 where
  duties g r := if r = 0 ∧ g.1.2 = .tc then ((ix g.2).elim ∅ dut) else ∅
  unitless _ := False
  amount g _ _ := (ix g.2).elim 1 amt
  payload g _ d := (ix g.2).elim iprop(emp) fun k => pay A g.1.1 k d
  amount_pos g _ _ _ := by
    cases h : ix g.2 with
    | none => exact Nat.one_pos
    | some k => exact amt_pos k

theorem storable_ite {p : Prop} [Decidable p] {P Q : sProp 𝕄} (h₁ : BI.Storable (upEmb : UEmb _ 𝕄) P) (h₂ : BI.Storable (upEmb : UEmb _ 𝕄) Q) :
    BI.Storable (upEmb : UEmb _ 𝕄) (if p then P else Q) := by
  split
  · exact h₁
  · exact h₂

instance pay_storable (c : Dev nD) (k : Fin 16) (d : Bool) : BI.Storable (upEmb : UEmb _ 𝕄) (pay A c k d) := by
  unfold pay landing
  (repeat' apply storable_ite) <;> infer_instance

instance sched_storable (g : GSem nD τ sig) (r : ℕ) (d : Bool) : BI.Storable (upEmb : UEmb _ 𝕄) ((sched A).payload g r d) := by
  show BI.Storable upEmb ((ix g.2).elim iprop(emp) fun k => pay A g.1.1 k d)
  cases ix g.2 with
  | none => show BI.Storable upEmb iprop(emp); infer_instance
  | some k => exact pay_storable A _ k d

section Sched

variable (c : Dev nD) (k : Fin 16)

theorem duties_cell : (sched A).duties (cell c k) 0 = dut k := by
  dsimp only [sched]; rw [if_pos ⟨rfl, rfl⟩, ix_sm]; rfl
theorem duties_later (g : GSem nD τ sig) : ∀ r, 1 ≤ r → (sched A).duties g r = ∅ :=
  fun r hr => by dsimp only [sched]; rw [if_neg (fun h => by omega)]
theorem amount_cell (d : Bool) : (sched A).amount (cell c k) 0 d = amt k := by dsimp only [sched]; rw [ix_sm]; rfl
theorem payload_cell (d : Bool) : (sched A).payload (cell c k) 0 d = pay A c k d := by dsimp only [sched]; rw [ix_sm]; rfl
theorem expect_cell : (sched A).expect (cell c k) 0 = tot k := by
  unfold Schedule.expect Schedule.amountOf
  rw [duties_cell, Finset.sum_congr rfl fun d _ => amount_cell A c k d]
  unfold dut amt tot
  by_cases h : k.val < 2
  · rw [if_pos h, if_pos h, if_pos h]; decide
  · rw [if_neg h, if_neg h, if_neg h, Finset.sum_singleton]
theorem mem_false : false ∈ (sched A).duties (cell c k) 0 := by
  rw [duties_cell]; unfold dut; split <;> decide
theorem mem_true (h : k.val < 2) : true ∈ (sched A).duties (cell c k) 0 := by
  rw [duties_cell]; unfold dut; rw [if_pos h]; decide
theorem rest_two (h : k.val < 2) : bigSep ((sched A).duties (cell c k) 0 \ ∅) (fun d => (sched A).payload (cell c k) 0 d)
    = iprop(pay A c k false ∗ pay A c k true) := by
  rw [Finset.sdiff_empty, duties_cell]; unfold dut
  rw [if_pos h, bigSep_insert (by decide), bigSep_singleton, payload_cell, payload_cell]; rfl
theorem rest_one (h : ¬ k.val < 2) : bigSep ((sched A).duties (cell c k) 0 \ ∅) (fun d => (sched A).payload (cell c k) 0 d)
    = pay A c k false := by
  rw [Finset.sdiff_empty, duties_cell]; unfold dut
  rw [if_neg h, bigSep_singleton, payload_cell]

end Sched

/-! ## What a core owes, in the order it pays, and the levels -/

/-- The cells a core pays on other devices, the last first. -/
def dueK : ℕ → Fin 16
  | 0 => ext | 1 => ext | 2 => rsr 2 | 3 => rsr 1 | 4 => agr 2 | 5 => rsr 0 | 6 => agr 1 | 7 => agr 0 | 8 => bar | _ => bar
def dueD (c : Dev nD) : ℕ → Dev nD
  | 1 => back c 1 | 9 => back c 1 | _ => nxt c
/-- What core `c` owes when `n` payments are left. -/
def owed (c : Dev nD) : ℕ → CellTallies nD τ sig Unit
  | 0 => 0
  | n + 1 => owed c n + tallyAt (cell (dueD c n) (dueK n)) () (amt (dueK n))

theorem owed_succ (c : Dev nD) (n : ℕ) : owed c (n + 1) = owed c n + tallyAt (cell (dueD c n) (dueK n)) () (amt (dueK n)) := rfl

def L (g : GSem nD τ sig) : Finset Unit := if g.1.2 = .tc then {()} else ∅
def lvK (k : Fin 16) : ℕ :=
  (![1, 8, 0, 0, 0, 2, 3, 5, 0, 0, 0, 4, 6, 7, 0, 0] : Fin 16 → ℕ) k
def lv (g : GSem nD τ sig) (_ : Unit) : ℕ := (ix g.2).elim 0 lvK

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (k : Fin 16) (u : Unit) : lv (cell c k) u = lvK k := by unfold lv; rw [ix_sm]; rfl

theorem owed_pos (c : Dev nD) {g : GSem nD τ sig} {u : Unit} : ∀ n, 0 < owed c n g u → ∃ j < n, g = cell (dueD c j) (dueK j)
  | 0, h => absurd h (Nat.lt_irrefl 0)
  | n + 1, h => by
    unfold owed at h
    rw [Pi.add_apply, Finsupp.add_apply] at h
    rcases Nat.add_pos_iff_pos_or_pos.mp h with h | h
    · obtain ⟨j, hj, e⟩ := owed_pos c n h
      exact ⟨j, Nat.lt_succ_of_lt hj, e⟩
    · rw [tallyAt_apply] at h
      by_cases hg : g = cell (dueD c n) (dueK n) ∧ u = ()
      · exact ⟨n, Nat.lt_succ_self n, hg.1⟩
      · rw [if_neg hg] at h; exact absurd h (Nat.lt_irrefl 0)

/-- A core may wait on a cell below every cell it still owes. -/
theorem mayWait (c : Dev nD) (s : SemLoc sig) (n : ℕ) (h : ∀ j < n, lv ((c : Thread nD τ), s) () < lvK (dueK j)) :
    (levAts L lv : sProp 𝕄) ⊢ MayWait (c : Thread nD τ) s () (owed c n) :=
  MayOwe.of_cut (L := L) (lev := lv) (lv ((c : Thread nD τ), s) ())
    (fun p hp => by rw [Finset.mem_singleton.mp hp, L_tc]; exact Finset.mem_singleton_self _)
    (fun g u hg => by obtain ⟨j, -, rfl⟩ := owed_pos c n hg; rw [L_tc]; exact Finset.mem_singleton_self _)
    (fun p hp => by rw [Finset.mem_singleton.mp hp])
    (fun g u hg => by obtain ⟨j, hj, rfl⟩ := owed_pos c n hg; rw [lv_cell]; exact h j hj)

/-! ## The ghost state -/

/-- The records every device may consult: the cells' invariants, and that every barrier cell is open. -/
def records (K : Dev nD × Fin 16 → ℕ) : sProp 𝕄 :=
  iprop((bigSep (Finset.univ : Finset (Dev nD × Fin 16)) fun p => cellInv ER (sched A) (K p) (cell p.1 p.2))
    ∗ bigSep (Finset.univ : Finset (Dev nD)) fun d => reached ER (cell d bar) 0)

instance records_persistent (K : Dev nD × Fin 16 → ℕ) : BI.Persistent (records A K) := by unfold records; infer_instance

theorem inv_all (K : Dev nD × Fin 16 → ℕ) (c : Dev nD) (k : Fin 16) :
    (bigSep (Finset.univ : Finset (Dev nD × Fin 16)) fun p => (cellInv ER (sched A) (K p) (cell p.1 p.2) : sProp 𝕄))
      ⊢ cellInv ER (sched A) (K (c, k)) (cell c k) :=
  bigSep_elim (Φ := fun p : Dev nD × Fin 16 => (cellInv ER (sched A) (K p) (cell p.1 p.2) : sProp 𝕄)) (Finset.mem_univ (c, k))
theorem bar_all (d : Dev nD) : (bigSep (Finset.univ : Finset (Dev nD)) fun d => (reached ER (cell d bar) 0 : sProp 𝕄)) ⊢ reached ER (cell d bar) 0 :=
  bigSep_elim (Φ := fun d : Dev nD => (reached ER (cell d bar) 0 : sProp 𝕄)) (Finset.mem_univ d)
theorem inv_at (K : Dev nD × Fin 16 → ℕ) (c : Dev nD) (k : Fin 16) :
    (records A K : sProp 𝕄) ⊢ cellInv ER (sched A) (K (c, k)) (cell c k) := by
  unfold records
  iintro ⟨H, -⟩
  iapply (inv_all A K c k) $$ H
theorem bar_at (K : Dev nD × Fin 16 → ℕ) (d : Dev nD) : (records A K : sProp 𝕄) ⊢ reached ER (cell d bar) 0 := by
  unfold records
  iintro ⟨-, H⟩
  iapply (bar_all (F := F) d) $$ H

/-- That the cells of device `c` opened at the kernel's entry are open. -/
def opens (c : Dev nD) : sProp 𝕄 := bigSep (Finset.univ : Finset (Fin 15)) fun k => reached ER (cell c k.succ) 0
instance opens_persistent (c : Dev nD) : BI.Persistent (opens (F := F) c) := by unfold opens; infer_instance
theorem open_at (c : Dev nD) (k : Fin 16) (h : k ≠ 0) : (opens c : sProp 𝕄) ⊢ reached ER (cell c k) 0 := by
  obtain ⟨j, rfl⟩ := Fin.exists_succ_eq.mpr h
  unfold opens
  exact bigSep_elim (Φ := fun j : Fin 15 => (reached ER (cell c j.succ) 0 : sProp 𝕄)) (Finset.mem_univ j)

/-! ## The rules of the protocol -/

/-- Core `c` owes what `n` payments are left of. -/
abbrev ow (c : Dev nD) (n : ℕ) : sProp 𝕄 := iprop(∃ W, owes (c : Thread nD τ) (owed c n) W)
abbrev tok (c : Dev nD) (k : Fin 16) (b : Bool) : sProp 𝕄 := dutyTok ER (cell c k) 0 b
abbrev rch (c : Dev nD) (k : Fin 16) : sProp 𝕄 := reached ER (cell c k) 0
abbrev pos (c : Dev nD) (k : Fin 16) (r : ℕ) : sProp 𝕄 := atPos ER (cell c k) r ∅ 0
abbrev crd (c : Dev nD) (k : Fin 16) : sProp 𝕄 := cred (tallyAt (cell c k) () (tot k))

section Rules

variable (c : Dev nD) (K : Dev nD × Fin 16 → ℕ)

theorem own_squeeze {sp : Space} {s s' : Shape} {e : EltTy} (m : Memref sig .tc sp s e) (h : s.Squeezes s') (q : PosShare TreeShare) (X : s'.Idx → Elt F e) :
    (own c (m.squeeze s' h) q X : sProp 𝕄) = own c m q (fun j => X ((Shape.reshapeEquiv h.numel_eq).symm j)) := by
  have hset : (m.squeeze s' h).view.set = m.view.set := View.set_reshape _ _
  have h₁ : (own c (m.squeeze s' h) q X : sProp 𝕄) ⊢ own c m q (fun j => X ((Shape.reshapeEquiv h.numel_eq).symm j)) := by
    iintro H
    ihave H2 := (own_cases c (m.squeeze s' h) q X) $$ H
    icases H2 with ⟨%f, %hf, H⟩
    rw [hset]
    iapply (own_mk c m q (f := f) (by rw [← hf]; funext j; exact (congrArg (m.view.read (Elt F) f) ((Shape.reshapeEquiv h.numel_eq).apply_symm_apply j)).symm))
    iexact H
  have h₂ : (own c m q (fun j => X ((Shape.reshapeEquiv h.numel_eq).symm j)) : sProp 𝕄) ⊢ own c (m.squeeze s' h) q X := by
    iintro H
    ihave H2 := (own_cases c m q (fun j => X ((Shape.reshapeEquiv h.numel_eq).symm j))) $$ H
    icases H2 with ⟨%f, %hf, H⟩
    iapply (own_mk c (m.squeeze s' h) q (f := f) (by
      funext j
      exact (congrFun hf (Shape.reshapeEquiv h.numel_eq j)).trans (congrArg X ((Shape.reshapeEquiv h.numel_eq).symm_apply_apply j))))
    rw [hset]
    iexact H
  exact BI.equiv_iff.mp ⟨h₁, h₂⟩

theorem own_slot (s : Fin 3) (q : PosShare TreeShare) (X : Vec F S256x1024 .bf16) :
    (own c (slot s) q X : sProp 𝕄) = own c (slot3 s) q (uns X) :=
  own_squeeze c (slot3 s) squeezes_S1x256x1024_S256x1024 q X

/-- A signal of another device's barrier or exit cell. -/
theorem wp_sig {α : Type} {Q : α → sProp 𝕄} (k : Fin 16) (b : Bool) (d : Dev nD) {d' : Dev nD} (hd : d' = d) {sem : Sem sig} (hs : sm k = .reg sem) (n : ℕ)
    (hk : dueK n = k) (hD : dueD c n = d) (hb : b ∈ dut k) {a : ℕ} (ha : a = amt k)
    {f : PUnit → Prog (TpuEff nD τ sig (Elt F) Λ₀ .tc) α} :
    iprop(records A K ∗ pay A d k b ∗ ow c (n + 1) ∗ tok d k b ∗ rch d k)
      ⊢ iprop((ow c n -∗ WP c (f ⟨⟩) Q) -∗ WP c (.op (.semSignal (d', .tc) sem a) f) Q) := by
  subst hd
  iintro ⟨#HI, Hp, ⟨%W, HO⟩, Ht, Hr⟩ Hk
  iapply (Rounds.wp_signal 𝒱₀ ER (sched A) (c : Thread nD τ) none (dst := (d' : Thread nD τ)) (sem := sem) (r := 0) (d := b) (κ := K (d', k))
      (by rw [← hs, duties_cell]; exact hb) (by rw [← hs, amount_cell, ha]) () (owed c n)
      (O₀ := owed c (n + 1)) (by rw [← hs, ha, owed_succ, hk, hD])) $$ [HO Ht Hp Hr]
  · rw [← hs]
    isplitr; · iapply (inv_at A K d' k); iexact HI
    isplitl [HO]; · iexact HO
    isplitl [Ht]; · iexact Ht
    isplitl [Hp]; · rw [payload_cell]; iexact Hp
    iexact Hr
  iintro HO
  iapply Hk
  iexists W; iexact HO

/-- A wait for both units of the barrier or of the exit. -/
theorem wp_wait2 {α : Type} {Q : α → sProp 𝕄} (k : Fin 16) (hk : k.val < 2) {sem : Sem sig} (hs : sm k = .reg sem) (n : ℕ)
    (hl : ∀ j < n, lvK k < lvK (dueK j)) {a : ℕ} (ha : a = tot k)
    {f : PUnit → Prog (TpuEff nD τ sig (Elt F) Λ₀ .tc) α} :
    iprop(records A K ∗ levAts L lv ∗ crd c k ∗ ow c n ∗ pos c k 0)
      ⊢ iprop((iprop(ow c n ∗ pos c k 1 ∗ pay A c k false ∗ pay A c k true) -∗ WP c (f ⟨⟩) Q) -∗ WP c (.op (.semWait sem a) f) Q) := by
  iintro ⟨#HI, #Hlev, Hc, ⟨%W, HO⟩, Hat⟩ Hk
  iapply (Rounds.wp_wait_rest_token 𝒱₀ ER (sched A) (c : Thread nD τ) none (κ := K (c, k))
      (wpE_semWait_eq 𝒱₀ (c : Thread nD τ) none Set.univ) (Set.mem_univ _) () (O := owed c n) (W := W) (R := 0) (m := 0) (T := ∅)
      (by rw [Nat.zero_add, ← hs, expect_cell, ha])) $$ [Hc HO Hat]
  · rw [← hs, ha]
    isplitr; · iapply (inv_at A K c k); iexact HI
    isplitl [Hc]; · iexact Hc
    isplitl [HO]; · iexact HO
    isplitr; · iapply (mayWait c (sm k) n (fun j hj => by rw [lv_cell]; exact hl j hj)); iexact Hlev
    iexact Hat
  rw [← hs]
  iintro ⟨HO, Hat, -, Hpay⟩
  iapply Hk
  isplitl [HO]; · iexists _; iexact HO
  isplitl [Hat]; · iexact Hat
  iapply (Entails.of_eq (rest_two A c k hk)); iexact Hpay

/-- A wait for a copy. -/
theorem wp_wait1 {α : Type} {Q : α → sProp 𝕄} (k : Fin 16) (hk : ¬ k.val < 2) {sem : DmaSem sig} (hs : sm k = .dma sem) (n : ℕ)
    (hl : ∀ j < n, lvK k < lvK (dueK j)) {sp sp' : Space} {s s' : Shape} {e e' : EltTy}
    {src : Memref sig .tc sp' s' e'} {dst : Memref sig .tc sp s e} {hsrc : src.view.WordExact} {hdst : dst.view.WordExact}
    (ha : dst.view.dmaCredit = tot k)
    {f : PUnit → Prog (TpuEff nD τ sig (Elt F) Λ₀ .tc) α} :
    iprop(records A K ∗ levAts L lv ∗ crd c k ∗ ow c n ∗ pos c k 0)
      ⊢ iprop((iprop(ow c n ∗ pos c k 1 ∗ pay A c k false) -∗ WP c (f ⟨⟩) Q) -∗ WP c (.op (.waitDma2 sem src dst hsrc hdst) f) Q) := by
  iintro ⟨#HI, #Hlev, Hc, ⟨%W, HO⟩, Hat⟩ Hk
  iapply (Rounds.wp_wait_rest_token 𝒱₀ ER (sched A) (c : Thread nD τ) none (κ := K (c, k))
      (wpE_waitDma2_eq 𝒱₀ (c : Thread nD τ) none Set.univ) (Set.mem_univ _) () (O := owed c n) (W := W) (R := 0) (m := 0) (T := ∅)
      (by rw [Nat.zero_add, ← hs, expect_cell, ha])) $$ [Hc HO Hat]
  · rw [← hs, ha]
    isplitr; · iapply (inv_at A K c k); iexact HI
    isplitl [Hc]; · iexact Hc
    isplitl [HO]; · iexact HO
    isplitr; · iapply (mayWait c (sm k) n (fun j hj => by rw [lv_cell]; exact hl j hj)); iexact Hlev
    iexact Hat
  rw [← hs]
  iintro ⟨HO, Hat, -, Hpay⟩
  iapply Hk
  isplitl [HO]; · iexists _; iexact HO
  isplitl [Hat]; · iexact Hat
  iapply (Entails.of_eq (rest_one A c k hk)); iexact Hpay

/-- A copy inside the device, of a whole buffer into another. -/
theorem wp_cp {α : Type} {Q : α → sProp 𝕄} (k : Fin 16) (hk : tot k = amt k) {sem : DmaSem sig} (hs : sm k = .dma sem)
    {sp sp' : Space} {s : Shape} {e : EltTy} {src : Memref sig .tc sp s e} {dst : Memref sig .tc sp' s e} {X : s.Idx → Elt F e}
    {hsrc : src.view.WordExact} {hdst : dst.view.WordExact} {hsem : DmaTarget.Typed (nD := nD) sp (.dma sem) (DmaTarget.here (p := (Proc.tc : Proc τ)) dst)}
    (ha : dst.view.dmaCredit = amt k) (hpay : iprop(own c dst fullShare X ∗ own c src fullShare X) ⊢ pay A c k false)
    {f : PUnit → Prog (TpuEff nD τ sig (Elt F) Λ₀ .tc) α} :
    iprop(records A K ∗ own c src fullShare X ∗ any c dst ∗ tok c k false ∗ rch c k)
      ⊢ iprop((crd c k -∗ WP c (f ⟨⟩) Q) -∗ WP c (.op (.enqueueDma src (.here dst) (.dma sem) hsrc hdst hsem) f) Q) := by
  iintro ⟨#HI, Hs, ⟨%Y, Hd⟩, Ht, Hr⟩ Hk
  ihave Hs2 := (own_cases c src fullShare X) $$ Hs
  icases Hs2 with ⟨%fs, %hfs, Hs⟩
  ihave Hd2 := (own_cases c dst fullShare Y) $$ Hd
  icases Hd2 with ⟨%fd, %hfd, Hd⟩
  iapply (Rounds.wp_copy_pointsTo 𝒱₀ ER (sched A) (c : Thread nD τ) none (src := src) (dst := dst) (sem := .dma sem) (q := fullShare) (fs := fs) (fd := fd)
      (r := 0) (d := false) (κ := K (c, k)) (by rw [← hs]; exact mem_false A c k) () (amt k) ha (by rw [← hs, amount_cell])
      (by
        rw [← hs, payload_cell]
        refine BIBase.Entails.trans ?_ hpay
        iintro ⟨Hd, Hs⟩
        isplitl [Hd]
        · iapply (own_mk c dst fullShare ((View.read_write_univ _ _).trans hfs)); iexact Hd
        · iapply (own_mk c src fullShare hfs); iexact Hs)) $$ [Hs Hd Ht Hr]
  · rw [← hs]
    isplitr; · iapply (inv_at A K c k); iexact HI
    isplitl [Hs]; · iexact Hs
    isplitl [Hd]; · iexact Hd
    isplitl [Ht]; · iexact Ht
    iexact Hr
  rw [← hs, ← hk]
  iintro Hc
  iapply Hk
  iexact Hc

/-- A copy into the next device. -/
theorem wp_snd {α : Type} {Q : α → sProp 𝕄} (ks kr : Fin 16) {d : Dev nD} (hd : d = nxt c) (n : ℕ) (hn : dueK n = kr) (hD : dueD c n = nxt c)
    {sS sR : DmaSem sig} (hsS : sm ks = .dma sS) (hsR : sm kr = .dma sR) (hks : tot ks = Nb) (hka : amt ks = Nb) (hkr : amt kr = Nb)
    {sp sp' : Space} {s : Shape} {e : EltTy} {src : Memref sig .tc sp s e} {dst : Memref sig .tc sp' s e} {q : PosShare TreeShare} {X : s.Idx → Elt F e}
    {hsc : dst.view.ref.isScScratch = false} {hsrc : src.view.WordExact} {hdst : dst.view.WordExact}
    {hsem : DmaTarget.Typed sp (.dma sR) (.remote (Dev.tc d) dst (.dma sS) hsc)}
    (ha : dst.view.dmaCredit = Nb) (hps : own c src q X ⊢ pay A c ks false) (hpr : own (nxt c) dst fullShare X ⊢ pay A (nxt c) kr false)
    {f : PUnit → Prog (TpuEff nD τ sig (Elt F) Λ₀ .tc) α} :
    iprop(records A K ∗ own c src q X ∗ any (nxt c) dst ∗ ow c (n + 1) ∗ tok c ks false ∗ rch c ks ∗ tok (nxt c) kr false ∗ rch (nxt c) kr)
      ⊢ iprop((iprop(crd c ks ∗ ow c n) -∗ WP c (f ⟨⟩) Q)
          -∗ WP c (.op (.enqueueDma src (.remote (Dev.tc d) dst (.dma sS) hsc) (.dma sR) hsrc hdst hsem) f) Q) := by
  subst hd
  iintro ⟨#HI, Hs, ⟨%Y, Hd⟩, ⟨%W, HO⟩, Ht, Hr, Ht2, Hr2⟩ Hk
  ihave Hs2 := (own_cases c src q X) $$ Hs
  icases Hs2 with ⟨%fs, %hfs, Hs⟩
  ihave Hd2 := (own_cases (nxt c) dst fullShare Y) $$ Hd
  icases Hd2 with ⟨%fd, %hfd, Hd⟩
  iapply (Rounds.wp_send_pointsTo 𝒱₀ ER (sched A) (c : Thread nD τ) none (c' := (nxt c : Thread nD τ)) (src := src) (dst := dst)
      (sS := .dma sS) (sem := .dma sR) (q := q) (fs := fs) (fd := fd) (κ₁ := K (c, ks)) (κ₂ := K (nxt c, kr))
      (r₁ := 0) (r₂ := 0) (d₁ := false) (d₂ := false)
      (by rw [← hsS]; exact mem_false A c ks) (by rw [← hsR]; exact mem_false A (nxt c) kr)
      () () Nb ha (by rw [← hsS, amount_cell, hka]) (by rw [← hsR, amount_cell, hkr]) (owed c n)
      (O₀ := owed c (n + 1)) (by rw [← hsR, ← hkr, owed_succ, hn, hD]) (W := W)
      (by rw [← hsS, payload_cell]; exact (own_mk c src q hfs).trans hps)
      (by rw [← hsR, payload_cell]; exact (own_mk (nxt c) dst fullShare ((View.read_write_univ _ _).trans hfs)).trans hpr)) $$ [Hs Hd HO Ht Hr Ht2 Hr2]
  · rw [← hsS, ← hsR]
    isplitr; · iapply (inv_at A K c ks); iexact HI
    isplitr; · iapply (inv_at A K (nxt c) kr); iexact HI
    isplitl [Hs]; · iexact Hs
    isplitl [Hd]; · iexact Hd
    isplitl [HO]; · iexact HO
    isplitl [Ht]; · iexact Ht
    isplitl [Hr]; · iexact Hr
    isplitl [Ht2]; · iexact Ht2
    iexact Hr2
  rw [← hsS, ← hks]
  iintro ⟨Hc, HO⟩
  iapply Hk
  isplitl [Hc]; · iexact Hc
  iexists W; iexact HO

end Rules

end Cert.KernelIdealP

end
-- ==== Proof.KernelIdeal.Body1.lean ====
/-
  The first parts of the kernel: the copies of the keys and values, the barrier, the device's own rows, and
  the first transfer of rows.
-/
module

public import proofs.«01_k».proof.Proof.KernelIdeal.Sched
public import Idealize.ShloMosaic.Lib.StableHlo.CollectiveRules

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (A : Dev nD → Inp F)

/-! ## The units of the copies, by where they land -/

theorem cr_x {k : Fin 16} (hk : tot k = Nb) {off : Fin 2 → Nat} {inb : ∀ a, off a + S256x1024.size a ≤ S1024x1024.size a} :
    (part xfull off S256x1024.size inb).view.dmaCredit = tot k := by rw [hk]; rfl
theorem cr_p {k : Fin 16} (hk : tot k = Nb) {off : Fin 2 → Nat} {inb : ∀ a, off a + S256x1024.size a ≤ S1024x1024.size a} :
    (part pbuf off S256x1024.size inb).view.dmaCredit = tot k := by rw [hk]; rfl
theorem cr_s {k : Fin 16} (hk : tot k = Nb) (h : Fin 3) : (slot h).view.dmaCredit = tot k := by rw [hk]; rfl
theorem cr_k : (kbuf : Memref sig .tc .vmem S8x1024x128 .bf16).view.dmaCredit = tot (kvc 0) := rfl
theorem cr_v : (vbuf : Memref sig .tc .vmem S8x1024x128 .bf16).view.dmaCredit = tot (kvc 1) :=
  (show (vbuf : Memref sig .tc .vmem S8x1024x128 .bf16).view.dmaCredit = Nk from rfl).trans rfl

section Rules

variable (c : Dev nD) (K : Dev nD × Fin 16 → ℕ)

/-- Ownership in two halves. -/
theorem own_halves {sp : Space} {s : Shape} {e : EltTy} (m : Memref sig .tc sp s e) (X : s.Idx → Elt F e) :
    (own c m fullShare X : sProp 𝕄) ⊢ iprop(own c m fullShare.left X ∗ own c m fullShare.right X) :=
  (owns_share (c : Thread nD τ) m (PosShare.mem_left_op_right fullShare) X).1
theorem own_unhalve {sp : Space} {s : Shape} {e : EltTy} (m : Memref sig .tc sp s e) (X : s.Idx → Elt F e) :
    iprop(own c m fullShare.left X ∗ own c m fullShare.right X) ⊢ (own c m fullShare X : sProp 𝕄) :=
  (owns_share (c : Thread nD τ) m (PosShare.mem_left_op_right fullShare) X).2

/-- The rows' copy into the next device: send number `h`. -/
theorem wp_ag {α : Type} {Q : α → sProp 𝕄} (h : Fin 3) (b : Dev nD) {d : Dev nD} (hd : d = nxt c) (n : ℕ) (hn : dueK n = agr h) (hD : dueD c n = nxt c)
    {sS sR : DmaSem sig} (hsS : sm (ags h) = .dma sS) (hsR : sm (agr h) = .dma sR)
    {off : Fin 2 → Nat} (ho : off = bOff b) {inb : ∀ a, off a + S256x1024.size a ≤ S1024x1024.size a} {X : Vec F S256x1024 .bf16}
    {hsc : (part xfull off S256x1024.size inb).view.ref.isScScratch = false} {hsrc hdst : (part xfull off S256x1024.size inb).view.WordExact}
    {hsem : DmaTarget.Typed .vmem (.dma sR) (.remote (Dev.tc d) (part xfull off S256x1024.size inb) (.dma sS) hsc)}
    (hps : own c (rows xfull b) fullShare.left X ⊢ pay A c (ags h) false) (hpr : own (nxt c) (rows xfull b) fullShare X ⊢ pay A (nxt c) (agr h) false)
    {f : PUnit → Prog (TpuEff nD τ sig (Elt F) Λ₀ .tc) α} :
    iprop(records A K ∗ opens c ∗ opens (nxt c) ∗ own c (rows xfull b) fullShare.left X ∗ any (nxt c) (rows xfull b) ∗ ow c (n + 1)
        ∗ tok c (ags h) false ∗ tok (nxt c) (agr h) false)
      ⊢ iprop((iprop(crd c (ags h) ∗ ow c n) -∗ WP c (f ⟨⟩) Q)
          -∗ WP c (.op (.enqueueDma (part xfull off S256x1024.size inb) (.remote (Dev.tc d) (part xfull off S256x1024.size inb) (.dma sS) hsc) (.dma sR) hsrc hdst hsem) f) Q) := by
  subst ho
  have ht : ∀ h : Fin 3, tot (ags h) = Nb ∧ amt (ags h) = Nb ∧ amt (agr h) = Nb ∧ ags h ≠ 0 ∧ agr h ≠ 0 := by
    intro h; fin_cases h <;> exact ⟨rfl, rfl, rfl, by decide, by decide⟩
  iintro ⟨#HI, #Ho, #Ho2, Hs, Hd, HO, Ht, Ht2⟩ Hk
  iapply (wp_snd A c K (ags h) (agr h) hd n hn hD hsS hsR (ht h).1 (ht h).2.1 (ht h).2.2.1 (src := rows xfull b) (dst := rows xfull b) (X := X) rfl hps hpr) $$ [Hs Hd HO Ht Ht2]
  · isplitr; · iexact HI
    isplitl [Hs]; · iexact Hs
    isplitl [Hd]; · iexact Hd
    isplitl [HO]; · iexact HO
    isplitl [Ht]; · iexact Ht
    isplitr; · iapply (open_at c (ags h) (ht h).2.2.2.1); iexact Ho
    isplitl [Ht2]; · iexact Ht2
    iapply (open_at (nxt c) (agr h) (ht h).2.2.2.2); iexact Ho2
  iexact Hk

/-- The partial sums' copy into the next device: send number `h`. -/
theorem wp_rs {α : Type} {Q : α → sProp 𝕄} (h : Fin 3) (b : Dev nD) {d : Dev nD} (hd : d = nxt c) (n : ℕ) (hn : dueK n = rsr h) (hD : dueD c n = nxt c)
    {sS sR : DmaSem sig} (hsS : sm (rss h) = .dma sS) (hsR : sm (rsr h) = .dma sR)
    {off : Fin 2 → Nat} (ho : off = bOff b) {inb : ∀ a, off a + S256x1024.size a ≤ S1024x1024.size a} {X : Vec F S256x1024 .bf16}
    {hsc : (slot h).view.ref.isScScratch = false} {hsrc : (part pbuf off S256x1024.size inb).view.WordExact} {hdst : (slot h).view.WordExact}
    {hsem : DmaTarget.Typed .vmem (.dma sR) (.remote (Dev.tc d) (slot h) (.dma sS) hsc)}
    (hps : own c (rows pbuf b) fullShare X ⊢ pay A c (rss h) false) (hpr : own (nxt c) (slot h) fullShare X ⊢ pay A (nxt c) (rsr h) false)
    {f : PUnit → Prog (TpuEff nD τ sig (Elt F) Λ₀ .tc) α} :
    iprop(records A K ∗ opens c ∗ opens (nxt c) ∗ own c (rows pbuf b) fullShare X ∗ any (nxt c) (slot h) ∗ ow c (n + 1)
        ∗ tok c (rss h) false ∗ tok (nxt c) (rsr h) false)
      ⊢ iprop((iprop(crd c (rss h) ∗ ow c n) -∗ WP c (f ⟨⟩) Q)
          -∗ WP c (.op (.enqueueDma (part pbuf off S256x1024.size inb) (.remote (Dev.tc d) (slot h) (.dma sS) hsc) (.dma sR) hsrc hdst hsem) f) Q) := by
  subst ho
  have ht : ∀ h : Fin 3, tot (rss h) = Nb ∧ amt (rss h) = Nb ∧ amt (rsr h) = Nb ∧ rss h ≠ 0 ∧ rsr h ≠ 0 := by
    intro h; fin_cases h <;> exact ⟨rfl, rfl, rfl, by decide, by decide⟩
  iintro ⟨#HI, #Ho, #Ho2, Hs, Hd, HO, Ht, Ht2⟩ Hk
  iapply (wp_snd A c K (rss h) (rsr h) hd n hn hD hsS hsR (ht h).1 (ht h).2.1 (ht h).2.2.1 (src := rows pbuf b) (dst := slot h) (X := X) rfl hps hpr) $$ [Hs Hd HO Ht Ht2]
  · isplitr; · iexact HI
    isplitl [Hs]; · iexact Hs
    isplitl [Hd]; · iexact Hd
    isplitl [HO]; · iexact HO
    isplitl [Ht]; · iexact Ht
    isplitr; · iapply (open_at c (rss h) (ht h).2.2.2.1); iexact Ho
    isplitl [Ht2]; · iexact Ht2
    iapply (open_at (nxt c) (rsr h) (ht h).2.2.2.2); iexact Ho2
  iexact Hk

/-- A load of a whole memref through the rectangle of all of it. -/
theorem ld_all {α : Type} {Q : α → sProp 𝕄} {sp : CoreSpace} {s : Shape} {e : EltTy} {m : Memref sig .tc sp s e} {off : Fin s.rank → Nat} (h : off = fun _ => 0)
    {inb : ∀ a, off a + s.size a ≤ s.size a} {hl : m.view.LoadsAt (Rect.unit (s := s) off s.size inb).toLoadRect}
    {k : (s.Idx → Elt F e) → Prog (TpuEff nD τ sig (Elt F) Λ₀ .tc) α} {q : PosShare TreeShare} {X : s.Idx → Elt F e} :
    (own c m q X : sProp 𝕄)
      ⊢ iprop((own c m q X -∗ WP c (k X) Q) -∗ WP c (.op (.load m (Rect.unit (s := s) off s.size inb).toLoadRect hl) k) Q) := by
  subst h
  have hX : sub X (fun _ => 0) s.size inb = X := by
    funext j
    exact congrArg X (funext fun a => Fin.ext (by show 0 + 1 * (j a).val = (j a).val; omega))
  have := ld_sub (Q := Q) c (m := m) (off := fun _ => 0) (off' := fun _ => 0) (size := s.size) rfl (inb := inb) (inb' := inb) (hl := hl) (k := k) (q := q) (X := X)
  rw [hX] at this
  exact this

end Rules

/-- What the barrier's signal to the device before carries. -/
theorem pay_bar (c : Dev nD) : (landing c (lft c) : sProp 𝕄) = pay A (lft c) bar true := by
  show landing c (lft c) = landing (nxt (lft c)) (lft c)
  rw [nxt_lft]

/-- What the barrier's signal to the device after carries. -/
theorem pay_bar' (c : Dev nD) : (reached ER (cell c ext) 0 : sProp 𝕄) = pay A (nxt c) bar false := by
  show reached ER (cell c ext) 0 = reached ER (cell (lft (nxt c)) ext) 0
  rw [lft_nxt]

/-- What a transfer of rows carries, as its receiver has it. -/
theorem pay_agr (c : Dev nD) : ∀ h : Fin 3, (own (nxt c) (rows xfull (back c h.val)) fullShare (xv A (back c h.val)) : sProp 𝕄) = pay A (nxt c) (agr h) false
  | 0 => by show _ = own (nxt c) (rows xfull (back (nxt c) 1)) fullShare (xv A (back (nxt c) 1)); exact congrArg (fun b => (own (nxt c) (rows xfull b) fullShare (xv A b) : sProp 𝕄)) (back_nxt c 0).symm
  | 1 => by show _ = own (nxt c) (rows xfull (back (nxt c) 2)) fullShare (xv A (back (nxt c) 2)); exact congrArg (fun b => (own (nxt c) (rows xfull b) fullShare (xv A b) : sProp 𝕄)) (back_nxt c 1).symm
  | 2 => by show _ = own (nxt c) (rows xfull (back (nxt c) 3)) fullShare (xv A (back (nxt c) 3)); exact congrArg (fun b => (own (nxt c) (rows xfull b) fullShare (xv A b) : sProp 𝕄)) (back_nxt c 2).symm

section Parts

variable (arg0 : Memref sig .tc .vmem S256x1024 .bf16) (harg0 : arg0.IsWhole) (arg1 : Memref sig .tc .vmem S8x1024x128 .bf16) (harg1 : arg1.IsWhole)
  (arg4 : Memref sig .tc .vmem S8x128x1024 .bf16) (harg4 : arg4.IsWhole) (arg5 : Memref sig .tc .vmem S256x1024 .f32) (harg5 : arg5.IsWhole)
  (c : Dev nD) (K : Dev nD × Fin 16 → ℕ)

set_option maxHeartbeats 1600000 in
set_option maxRecDepth 65536 in
theorem run5 {α : Type} {Q : α → sProp 𝕄} {k : (Σ' (d0 : Dev nD) (v2 : BitVec 32) (v14 : BitVec 32) (v25 : BitVec 32), Sems sig S_) → Prog (TpuEff nD τ sig (Elt F) Λ₀ .tc) α} :
    iprop(records A K
        ∗ opens c
        ∗ own c kHbm fullShare (A c).kb
        ∗ any c kbuf
        ∗ tok c (kvc 0) false
        ∗ own c vHbm fullShare (A c).vb
        ∗ any c vbuf
        ∗ tok c (kvc 1) false
        ∗ landing c (lft c)
        ∗ ow c 10
        ∗ tok (lft c) bar true)
      ⊢ iprop((∀ v2 v14 v25, iprop(crd c (kvc 0)
        ∗ crd c (kvc 1)
        ∗ ow c 9)
          -∗ WP c (k ⟨c, v2, v14, v25, SemArray.scalar (sig.barrier 0 rfl)⟩) Q) -∗ WP c (k0_part5 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 >>= k) Q) := by
  rw [k0_part5_eq_skeleton]
  unfold k0_part5_skel
  simp only [semSignalWord, semWaitWord, Prog.lift, Prog.bind_op, Prog.bind_ret, Prog.pure_eq_ret, Prog.bind_assoc, wp_deviceId]
  iintro ⟨#HI, #Ho, Hk1, Hk2, Hk3, Hv1, Hv2, Hv3, Hland, HO, Ht⟩ Hk
  iapply (wp_cp A c K (kvc 0) rfl rfl (src := kHbm) (dst := kbuf) (X := (A c).kb) cr_k (Entails.of_eq rfl)) $$ [Hk1 Hk2 Hk3]
  · isplitr; · iexact HI
    isplitl [Hk1]; · iexact Hk1
    isplitl [Hk2]; · iexact Hk2
    isplitl [Hk3]; · iexact Hk3
    iapply (open_at c (kvc 0) (by decide)); iexact Ho
  iintro Hc1
  iapply (wp_cp A c K (kvc 1) rfl rfl (src := vHbm) (dst := vbuf) (X := (A c).vb) cr_v (Entails.of_eq rfl)) $$ [Hv1 Hv2 Hv3]
  · isplitr; · iexact HI
    isplitl [Hv1]; · iexact Hv1
    isplitl [Hv2]; · iexact Hv2
    isplitl [Hv3]; · iexact Hv3
    iapply (open_at c (kvc 1) (by decide)); iexact Ho
  iintro Hc2
  iapply (wp_sig A c K bar true (lft c) (dev1_eq c) rfl 9 rfl rfl (by decide) rfl) $$ [Hland HO Ht]
  · isplitr; · iexact HI
    isplitl [Hland]; · iapply (Entails.of_eq (pay_bar A c)); iexact Hland
    isplitl [HO]; · iexact HO
    isplitl [Ht]; · iexact Ht
    iapply (bar_at A K (lft c)); iexact HI
  iintro HO
  ispecialize Hk $$ %_ %_ %_
  iapply Hk
  isplitl [Hc1]; · iexact Hc1
  isplitl [Hc2]; · iexact Hc2
  iexact HO

set_option maxHeartbeats 1600000 in
set_option maxRecDepth 65536 in
theorem run6 {α : Type} {Q : α → sProp 𝕄} (v2 v25 : BitVec 32) {k : (Σ' (v66 : IVec S256x256 32) (v67 : IVec S256x256 32) (c64_i32_30 : BitVec 32) (v69 : IVec S256x256 32), IVec S256x256 32) → Prog (TpuEff nD τ sig (Elt F) Λ₀ .tc) α} :
    iprop(records A K
        ∗ levAts L lv
        ∗ reached ER (cell c ext) 0
        ∗ ow c 9
        ∗ tok (nxt c) bar false
        ∗ crd c bar
        ∗ pos c bar 0
        ∗ own c arg0 fullShare (A c).x
        ∗ any c (rows xfull (back c 0)))
      ⊢ iprop((iprop(ow c 8
        ∗ pos c bar 1
        ∗ pay A c bar false
        ∗ landing (nxt c) c
        ∗ own c arg0 fullShare (A c).x
        ∗ own c (rows xfull (back c 0)) fullShare (xv A (back c 0)))
          -∗ WP c (k ⟨k0_pay74, iota .tc S256x256 32 [0] iota_S256x256_d0_w32, 64#32, k0_pay75, k0_pay76⟩) Q) -∗ WP c (k0_part6 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 (SemArray.scalar (sig.barrier 0 rfl)) >>= k) Q) := by
  rw [k0_part6_eq_skeleton]
  unfold k0_part6_skel
  simp only [semSignalWord, semWaitWord, Prog.lift, Prog.bind_op, Prog.bind_ret, Prog.pure_eq_ret, Prog.bind_assoc, wp_deviceId]
  iintro ⟨#HI, #Hl, Hr, HO, Ht, Hc, Hp, Hx, ⟨%Y, Hd⟩⟩ Hk
  iapply (wp_sig A c K bar false (nxt c) (dev2_eq c) rfl 8 rfl rfl (by decide) rfl) $$ [Hr HO Ht]
  · isplitr; · iexact HI
    isplitl [Hr]; · iapply (Entails.of_eq (pay_bar' A c)); iexact Hr
    isplitl [HO]; · iexact HO
    isplitl [Ht]; · iexact Ht
    iapply (bar_at A K (nxt c)); iexact HI
  iintro HO
  iapply (wp_wait2 A c K bar (by decide) rfl 8 (by decide) rfl) $$ [Hc HO Hp]
  · isplitr; · iexact HI
    isplitr; · iexact Hl
    isplitl [Hc]; · iexact Hc
    isplitl [HO]; · iexact HO
    iexact Hp
  iintro ⟨HO, Hp, Hf, Ht⟩
  iapply (ld_all c (m := arg0) (by decide)) $$ Hx
  iintro Hx
  iapply (ld c (off1_eq c) (inb' := bOff_inb (back c 0))) $$ Hd
  iintro Hd
  iapply (st c (off1_eq c) (inb' := bOff_inb (back c 0))) $$ Hd
  iintro Hd
  iapply Hk
  isplitl [HO]; · iexact HO
  isplitl [Hp]; · iexact Hp
  isplitl [Hf]; · iexact Hf
  isplitl [Ht]; · iapply (Entails.of_eq (show pay A c bar true = landing (nxt c) c from rfl)); iexact Ht
  isplitl [Hx]; · iexact Hx
  iapply (Entails.of_eq (show (own c (rows xfull (back c 0)) fullShare (k0_pay73 (A c).x) : sProp 𝕄) = own c (rows xfull (back c 0)) fullShare (k0_pay73 (A (back c 0)).x) from by rw [back_zero])); iexact Hd

set_option maxHeartbeats 1600000 in
set_option maxRecDepth 65536 in
theorem run8 {α : Type} {Q : α → sProp 𝕄} (v2 v25 : BitVec 32) {k : (PUnit) → Prog (TpuEff nD τ sig (Elt F) Λ₀ .tc) α} :
    iprop(records A K
        ∗ levAts L lv
        ∗ opens c
        ∗ opens (nxt c)
        ∗ own c (rows xfull (back c 0)) fullShare.left (xv A (back c 0))
        ∗ any (nxt c) (rows xfull (back c 0))
        ∗ ow c 8
        ∗ tok c (ags 0) false
        ∗ tok (nxt c) (agr 0) false
        ∗ crd c (kvc 0)
        ∗ pos c (kvc 0) 0
        ∗ crd c (kvc 1)
        ∗ pos c (kvc 1) 0
        ∗ crd c (agr 0)
        ∗ pos c (agr 0) 0)
      ⊢ iprop((iprop(ow c 7
        ∗ crd c (ags 0)
        ∗ pos c (kvc 0) 1
        ∗ own c kbuf fullShare (A c).kb
        ∗ own c kHbm fullShare (A c).kb
        ∗ pos c (kvc 1) 1
        ∗ own c vbuf fullShare (A c).vb
        ∗ own c vHbm fullShare (A c).vb
        ∗ pos c (agr 0) 1
        ∗ own c (rows xfull (back c 1)) fullShare (xv A (back c 1)))
          -∗ WP c (k ⟨⟩) Q) -∗ WP c (k0_part8 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 >>= k) Q) := by
  rw [k0_part8_eq_skeleton]
  unfold k0_part8_skel
  simp only [semSignalWord, semWaitWord, Prog.lift, Prog.bind_op, Prog.bind_ret, Prog.pure_eq_ret, Prog.bind_assoc, wp_deviceId]
  iintro ⟨#HI, #Hl, #Ho, #Ho2, Hx, Hd, HO, Ht, Ht2, Hc1, Hp1, Hc2, Hp2, Hc3, Hp3⟩ Hk
  iapply (wp_ag A c K 0 (back c 0) (dev3_eq c) 7 rfl rfl rfl rfl (off2_eq0 c) (X := xv A (back c 0)) (Entails.of_eq rfl) (Entails.of_eq (pay_agr A c 0))) $$ [Hx Hd HO Ht Ht2]
  · isplitr; · iexact HI
    isplitr; · iexact Ho
    isplitr; · iexact Ho2
    isplitl [Hx]; · iexact Hx
    isplitl [Hd]; · iexact Hd
    isplitl [HO]; · iexact HO
    isplitl [Ht]; · iexact Ht
    iexact Ht2
  iintro ⟨Hc, HO⟩
  iapply (wp_wait1 A c K (kvc 0) (by decide) rfl 7 (by decide) (dst := kbuf) cr_k) $$ [Hc1 HO Hp1]
  · isplitr; · iexact HI
    isplitr; · iexact Hl
    isplitl [Hc1]; · iexact Hc1
    isplitl [HO]; · iexact HO
    iexact Hp1
  iintro ⟨HO, Hp1, Hk1⟩
  iapply (wp_wait1 A c K (kvc 1) (by decide) rfl 7 (by decide) (dst := vbuf) cr_v) $$ [Hc2 HO Hp2]
  · isplitr; · iexact HI
    isplitr; · iexact Hl
    isplitl [Hc2]; · iexact Hc2
    isplitl [HO]; · iexact HO
    iexact Hp2
  iintro ⟨HO, Hp2, Hv1⟩
  iapply (wp_wait1 A c K (agr 0) (by decide) rfl 7 (by decide) (cr_x rfl)) $$ [Hc3 HO Hp3]
  · isplitr; · iexact HI
    isplitr; · iexact Hl
    isplitl [Hc3]; · iexact Hc3
    isplitl [HO]; · iexact HO
    iexact Hp3
  iintro ⟨HO, Hp3, Hx⟩
  ihave Hk2 := (Entails.of_eq (show (pay A c (kvc 0) false : sProp 𝕄) = iprop(own c kbuf fullShare (A c).kb ∗ own c kHbm fullShare (A c).kb) from rfl)) $$ Hk1
  icases Hk2 with ⟨Hk1, Hk2⟩
  ihave Hv2 := (Entails.of_eq (show (pay A c (kvc 1) false : sProp 𝕄) = iprop(own c vbuf fullShare (A c).vb ∗ own c vHbm fullShare (A c).vb) from rfl)) $$ Hv1
  icases Hv2 with ⟨Hv1, Hv2⟩
  ihave Hx := (Entails.of_eq (show (pay A c (agr 0) false : sProp 𝕄) = own c (rows xfull (back c 1)) fullShare (xv A (back c 1)) from rfl)) $$ Hx
  iapply Hk
  isplitl [HO]; · iexact HO
  isplitl [Hc]; · iexact Hc
  isplitl [Hp1]; · iexact Hp1
  isplitl [Hk1]; · iexact Hk1
  isplitl [Hk2]; · iexact Hk2
  isplitl [Hp2]; · iexact Hp2
  isplitl [Hv1]; · iexact Hv1
  isplitl [Hv2]; · iexact Hv2
  isplitl [Hp3]; · iexact Hp3
  iexact Hx

end Parts

end Cert.KernelIdealP

end
-- ==== Proof.KernelIdeal.Body2.lean ====
/-
  The middle parts of the kernel: the heads of a device over each device's rows, the ring of rows and the ring of
  partial sums.
-/
module

public import proofs.«01_k».proof.Proof.KernelIdeal.Body1
public import Idealize.ShloMosaic.Lib.StableHlo.CollectiveRules

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (A : Dev nD → Inp F)

/-- What a transfer of partial sums carries, as its receiver has it. -/
theorem pay_rsr0 (c : Dev nD) : (own (nxt c) (slot 0) fullShare (PC A c (back c 1)) : sProp 𝕄) = pay A (nxt c) (rsr 0) false := by
  show _ = own (nxt c) (slot 0) fullShare (PC A (back (nxt c) 1) (back (nxt c) 2))
  rw [show back (nxt c) 1 = c from lft_nxt c, show back (nxt c) 2 = back c 1 from back_nxt c 1]
/-- The second partial sum's contents, as the device before made it. -/
theorem R1_nxt (c : Dev nD) : R1 A (nxt c) = k0_pay102 (PC A c (back c 2)) (uns (R0 A c)) := by
  unfold R1
  rw [show back (nxt c) 1 = c from lft_nxt c, show back (nxt c) 3 = back c 2 from back_nxt c 2]
/-- The third's. -/
theorem R2_nxt (c : Dev nD) : R2 A (nxt c) = k0_pay115 (PC A c (back c 3)) (uns (R1 A c)) := by
  unfold R2
  rw [show back (nxt c) 1 = c from lft_nxt c]
theorem pay_rsr1 (c : Dev nD) : (own (nxt c) (slot 1) fullShare (k0_pay102 (PC A c (back c 2)) (uns (R0 A c))) : sProp 𝕄) = pay A (nxt c) (rsr 1) false := by
  rw [← R1_nxt]; rfl
theorem pay_rsr2 (c : Dev nD) : (own (nxt c) (slot 2) fullShare (k0_pay115 (PC A c (back c 3)) (uns (R1 A c))) : sProp 𝕄) = pay A (nxt c) (rsr 2) false := by
  rw [← R2_nxt]; rfl

/-- What each of the four loops stores is the device's share of one device's rows. -/
theorem stored1 (c : Dev nD) : (k0_pay89 (headsV msk (xv A (back c 1)) (A c).wq (A c).wo (A c).kb (A c).vb (cs1 c))) = PC A c (back c 1) := by
  rw [cs1_eq]; rfl
theorem stored2 (c : Dev nD) : (k0_pay101 (headsV msk (xv A (back c 2)) (A c).wq (A c).wo (A c).kb (A c).vb (cs2 c))) = PC A c (back c 2) := by
  rw [cs2_eq]; rfl
theorem stored3 (c : Dev nD) : (k0_pay114 (headsV msk (xv A (back c 3)) (A c).wq (A c).wo (A c).kb (A c).vb (cs3 c))) = PC A c (back c 3) := by
  rw [cs3_eq]; rfl
theorem stored4 (c : Dev nD) : (k0_pay127 (headsV msk (xv A (back c 0)) (A c).wq (A c).wo (A c).kb (A c).vb (cs4 c))) = PC A c (back c 0) := by
  unfold PC AC; rw [back_zero]; rfl

theorem out_eq (c : Dev nD) : k0_pay128 (PC A c (back c 0)) (uns (R2 A c)) = outV A c := by
  unfold outV; rw [back_zero]

/-- Some contents, from known ones. -/
theorem any_of (c : Dev nD) {sp : Space} {s : Shape} {e : EltTy} (m : Memref sig .tc sp s e) (X : s.Idx → Elt F e) :
    (own c m fullShare X : sProp 𝕄) ⊢ any c m := by
  iintro H; iexists X; iexact H

section Parts

variable (arg0 : Memref sig .tc .vmem S256x1024 .bf16) (harg0 : arg0.IsWhole) (arg1 : Memref sig .tc .vmem S8x1024x128 .bf16) (harg1 : arg1.IsWhole)
  (arg4 : Memref sig .tc .vmem S8x128x1024 .bf16) (harg4 : arg4.IsWhole) (arg5 : Memref sig .tc .vmem S256x1024 .f32) (harg5 : arg5.IsWhole)
  (c : Dev nD) (K : Dev nD × Fin 16 → ℕ)

/-- The buffers a head's trip runs on, whatever the softmax's two scratches hold. -/
abbrev kv : sProp 𝕄 := iprop(∃ p, wkvdc c arg1 arg4 kbuf vbuf cbuf dbuf (A c).wq (A c).wo (A c).kb (A c).vb p)

set_option maxHeartbeats 1600000 in
set_option maxRecDepth 65536 in
theorem run9 {α : Type} {Q : α → sProp 𝕄} (v2 v25 : BitVec 32) {k : (PUnit) → Prog (TpuEff nD τ sig (Elt F) Λ₀ .tc) α} :
    iprop(records A K
        ∗ opens c
        ∗ opens (nxt c)
        ∗ own c (rows xfull (back c 1)) fullShare.left (xv A (back c 1))
        ∗ any (nxt c) (rows xfull (back c 1))
        ∗ ow c 7
        ∗ tok c (ags 1) false
        ∗ tok (nxt c) (agr 1) false
        ∗ own c (rows xfull (back c 1)) fullShare.right (xv A (back c 1))
        ∗ kv A arg1 arg4 c
        ∗ any c (rows pbuf (back c 1)))
      ⊢ iprop((iprop(crd c (ags 1)
        ∗ ow c 6
        ∗ own c (rows xfull (back c 1)) fullShare.right (xv A (back c 1))
        ∗ kv A arg1 arg4 c
        ∗ own c (rows pbuf (back c 1)) fullShare (PC A c (back c 1)))
          -∗ WP c (k ⟨⟩) Q) -∗ WP c (k0_part9 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 msk >>= k) Q) := by
  rw [k0_part9_eq_skeleton]
  unfold k0_part9_skel
  simp only [semSignalWord, semWaitWord, Prog.lift, Prog.bind_op, Prog.bind_ret, Prog.pure_eq_ret, Prog.bind_assoc, wp_deviceId]
  iintro ⟨#HI, #Ho, #Ho2, Hx, Hd, HO, Ht, Ht2, Hy, Hkv, ⟨%Y, Hz⟩⟩ Hk
  iapply (wp_ag A c K 1 (back c 1) (dev4_eq c) 6 rfl rfl rfl rfl (off2_eq1 c) (X := xv A (back c 1)) (Entails.of_eq rfl) (Entails.of_eq (pay_agr A c 1))) $$ [Hx Hd HO Ht Ht2]
  · isplitr; · iexact HI
    isplitr; · iexact Ho
    isplitr; · iexact Ho2
    isplitl [Hx]; · iexact Hx
    isplitl [Hd]; · iexact Hd
    isplitl [HO]; · iexact HO
    isplitl [Ht]; · iexact Ht
    iexact Ht2
  iintro ⟨Hc, HO⟩
  iapply (ld c (off3_eq1 c) (inb' := bOff_inb (back c 1))) $$ Hy
  iintro Hy
  iapply (wp_loop c arg1 arg4 kbuf vbuf cbuf dbuf msk (xv A (back c 1)) (A c).wq (A c).wo (A c).kb (A c).vb (cs1 c) k0_t1_loop rfl _ _ rfl _ (fun t acc => body1_eq arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 msk _ _ t acc)) $$ Hkv
  iintro Hkv
  iapply (ld c (off3_eq1 c) (inb' := bOff_inb (back c 1))) $$ Hz
  iintro Hz
  iapply (st c (off3_eq1 c) (inb' := bOff_inb (back c 1))) $$ Hz
  iintro Hz
  iapply Hk
  isplitl [Hc]; · iexact Hc
  isplitl [HO]; · iexact HO
  isplitl [Hy]; · iexact Hy
  isplitl [Hkv]; · iexact Hkv
  iapply (Entails.of_eq (congrArg (fun V => (own c (rows pbuf (back c 1)) fullShare V : sProp 𝕄)) (stored1 A c))); iexact Hz

set_option maxHeartbeats 1600000 in
set_option maxRecDepth 65536 in
theorem run10 {α : Type} {Q : α → sProp 𝕄} (v2 v25 : BitVec 32) {k : (PUnit) → Prog (TpuEff nD τ sig (Elt F) Λ₀ .tc) α} :
    iprop(records A K
        ∗ levAts L lv
        ∗ opens c
        ∗ opens (nxt c)
        ∗ own c (rows pbuf (back c 1)) fullShare (PC A c (back c 1))
        ∗ any (nxt c) (slot 0)
        ∗ ow c 6
        ∗ tok c (rss 0) false
        ∗ tok (nxt c) (rsr 0) false
        ∗ crd c (agr 1)
        ∗ pos c (agr 1) 0
        ∗ any (nxt c) (rows xfull (back c 2))
        ∗ tok c (ags 2) false
        ∗ tok (nxt c) (agr 2) false)
      ⊢ iprop((iprop(crd c (rss 0)
        ∗ pos c (agr 1) 1
        ∗ crd c (ags 2)
        ∗ ow c 4
        ∗ own c (rows xfull (back c 2)) fullShare.right (xv A (back c 2)))
          -∗ WP c (k ⟨⟩) Q) -∗ WP c (k0_part10 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 >>= k) Q) := by
  rw [k0_part10_eq_skeleton]
  unfold k0_part10_skel
  simp only [semSignalWord, semWaitWord, Prog.lift, Prog.bind_op, Prog.bind_ret, Prog.pure_eq_ret, Prog.bind_assoc, wp_deviceId]
  iintro ⟨#HI, #Hl, #Ho, #Ho2, Hx, Hd, HO, Ht, Ht2, Hc2, Hp, Hd2, Ht3, Ht4⟩ Hk
  iapply (wp_rs A c K 0 (back c 1) (dev5_eq c) 5 rfl rfl rfl rfl (off2_eq1 c) (X := PC A c (back c 1)) (any_of c _ _) (Entails.of_eq (pay_rsr0 A c))) $$ [Hx Hd HO Ht Ht2]
  · isplitr; · iexact HI
    isplitr; · iexact Ho
    isplitr; · iexact Ho2
    isplitl [Hx]; · iexact Hx
    isplitl [Hd]; · iexact Hd
    isplitl [HO]; · iexact HO
    isplitl [Ht]; · iexact Ht
    iexact Ht2
  iintro ⟨Hc, HO⟩
  iapply (wp_wait1 A c K (agr 1) (by decide) rfl 5 (by decide) (cr_x rfl)) $$ [Hc2 HO Hp]
  · isplitr; · iexact HI
    isplitr; · iexact Hl
    isplitl [Hc2]; · iexact Hc2
    isplitl [HO]; · iexact HO
    iexact Hp
  iintro ⟨HO, Hp, Hx⟩
  ihave Hx := (Entails.of_eq (show (pay A c (agr 1) false : sProp 𝕄) = own c (rows xfull (back c 2)) fullShare (xv A (back c 2)) from rfl)) $$ Hx
  ihave Hx2 := (own_halves c (rows xfull (back c 2)) (xv A (back c 2))) $$ Hx
  icases Hx2 with ⟨Hx, Hy⟩
  iapply (wp_ag A c K 2 (back c 2) (dev6_eq c) 4 rfl rfl rfl rfl (off2_eq2 c) (X := xv A (back c 2)) (Entails.of_eq rfl) (Entails.of_eq (pay_agr A c 2))) $$ [Hx Hd2 HO Ht3 Ht4]
  · isplitr; · iexact HI
    isplitr; · iexact Ho
    isplitr; · iexact Ho2
    isplitl [Hx]; · iexact Hx
    isplitl [Hd2]; · iexact Hd2
    isplitl [HO]; · iexact HO
    isplitl [Ht3]; · iexact Ht3
    iexact Ht4
  iintro ⟨Hc3, HO⟩
  iapply Hk
  isplitl [Hc]; · iexact Hc
  isplitl [Hp]; · iexact Hp
  isplitl [Hc3]; · iexact Hc3
  isplitl [HO]; · iexact HO
  iexact Hy

set_option maxHeartbeats 1600000 in
set_option maxRecDepth 65536 in
theorem run11 {α : Type} {Q : α → sProp 𝕄} (v2 v25 : BitVec 32) {k : (Σ' (v222 : BitVec 32), BitVec 32) → Prog (TpuEff nD τ sig (Elt F) Λ₀ .tc) α} :
    iprop(records A K
        ∗ levAts L lv
        ∗ own c (rows xfull (back c 2)) fullShare.right (xv A (back c 2))
        ∗ kv A arg1 arg4 c
        ∗ any c (rows pbuf (back c 2))
        ∗ crd c (rsr 0)
        ∗ ow c 4
        ∗ pos c (rsr 0) 0)
      ⊢ iprop((∀ v w, iprop(ow c 4
        ∗ own c (rows xfull (back c 2)) fullShare.right (xv A (back c 2))
        ∗ kv A arg1 arg4 c
        ∗ own c (rows pbuf (back c 2)) fullShare (PC A c (back c 2))
        ∗ pos c (rsr 0) 1
        ∗ own c (slot 0) fullShare (R0 A c))
          -∗ WP c (k ⟨v, w⟩) Q) -∗ WP c (k0_part11 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 msk >>= k) Q) := by
  rw [k0_part11_eq_skeleton]
  unfold k0_part11_skel
  simp only [semSignalWord, semWaitWord, Prog.lift, Prog.bind_op, Prog.bind_ret, Prog.pure_eq_ret, Prog.bind_assoc, wp_deviceId]
  iintro ⟨#HI, #Hl, Hy, Hkv, ⟨%Y, Hz⟩, Hc, HO, Hp⟩ Hk
  iapply (ld c (off3_eq2 c) (inb' := bOff_inb (back c 2))) $$ Hy
  iintro Hy
  iapply (wp_loop c arg1 arg4 kbuf vbuf cbuf dbuf msk (xv A (back c 2)) (A c).wq (A c).wo (A c).kb (A c).vb (cs2 c) k0_t2_loop rfl _ _ rfl _ (fun t acc => body2_eq arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 msk _ _ t acc)) $$ Hkv
  iintro Hkv
  iapply (ld c (off3_eq2 c) (inb' := bOff_inb (back c 2))) $$ Hz
  iintro Hz
  iapply (st c (off3_eq2 c) (inb' := bOff_inb (back c 2))) $$ Hz
  iintro Hz
  iapply (wp_wait1 A c K (rsr 0) (by decide) rfl 4 (by decide) (cr_s rfl 0)) $$ [Hc HO Hp]
  · isplitr; · iexact HI
    isplitr; · iexact Hl
    isplitl [Hc]; · iexact Hc
    isplitl [HO]; · iexact HO
    iexact Hp
  iintro ⟨HO, Hp, Hs⟩
  ihave Hs := (Entails.of_eq (show (pay A c (rsr 0) false : sProp 𝕄) = own c (slot 0) fullShare (R0 A c) from rfl)) $$ Hs
  ispecialize Hk $$ %_ %_
  iapply Hk
  isplitl [HO]; · iexact HO
  isplitl [Hy]; · iexact Hy
  isplitl [Hkv]; · iexact Hkv
  isplitl [Hz]; · iapply (Entails.of_eq (congrArg (fun V => (own c (rows pbuf (back c 2)) fullShare V : sProp 𝕄)) (stored2 A c))); iexact Hz
  isplitl [Hp]; · iexact Hp
  iexact Hs

set_option maxHeartbeats 1600000 in
set_option maxRecDepth 65536 in
theorem run12 {α : Type} {Q : α → sProp 𝕄} (v2 v25 v222 v242 : BitVec 32) {k : (Σ' (v270 : BitVec 32) (v271 : BitVec 32) (v272 : BitVec 1), BitVec 1) → Prog (TpuEff nD τ sig (Elt F) Λ₀ .tc) α} :
    iprop(records A K
        ∗ levAts L lv
        ∗ opens c
        ∗ opens (nxt c)
        ∗ own c (rows pbuf (back c 2)) fullShare (PC A c (back c 2))
        ∗ own c (slot 0) fullShare (R0 A c)
        ∗ any (nxt c) (slot 1)
        ∗ ow c 4
        ∗ tok c (rss 1) false
        ∗ tok (nxt c) (rsr 1) false
        ∗ crd c (agr 2)
        ∗ pos c (agr 2) 0)
      ⊢ iprop((∀ v270 v271 v272 v273, iprop(ow c 3
        ∗ crd c (rss 1)
        ∗ any c (slot 0)
        ∗ pos c (agr 2) 1
        ∗ own c (rows xfull (back c 3)) fullShare (xv A (back c 3)))
          -∗ WP c (k ⟨v270, v271, v272, v273⟩) Q) -∗ WP c (k0_part12 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 v222 v242 >>= k) Q) := by
  rw [k0_part12_eq_skeleton]
  unfold k0_part12_skel
  simp only [semSignalWord, semWaitWord, Prog.lift, Prog.bind_op, Prog.bind_ret, Prog.pure_eq_ret, Prog.bind_assoc, wp_deviceId]
  iintro ⟨#HI, #Hl, #Ho, #Ho2, Hz, Hs, Hd, HO, Ht, Ht2, Hc2, Hp⟩ Hk
  ihave Hs := (Entails.of_eq (own_slot c 0 fullShare (R0 A c))) $$ Hs
  iapply (ld c (off3_eq2 c) (inb' := bOff_inb (back c 2))) $$ Hz
  iintro Hz
  iapply (ld c rfl (inb' := sOff_inb 0)) $$ Hs
  iintro Hs
  iapply (ld c (off3_eq2 c) (inb' := bOff_inb (back c 2))) $$ Hz
  iintro Hz
  iapply (st c (off3_eq2 c) (inb' := bOff_inb (back c 2))) $$ Hz
  iintro Hz
  iapply (wp_rs A c K 1 (back c 2) (dev7_eq c) 3 rfl rfl rfl rfl (off2_eq2 c) (any_of c _ _) (Entails.of_eq (pay_rsr1 A c))) $$ [Hz Hd HO Ht Ht2]
  · isplitr; · iexact HI
    isplitr; · iexact Ho
    isplitr; · iexact Ho2
    isplitl [Hz]; · iexact Hz
    isplitl [Hd]; · iexact Hd
    isplitl [HO]; · iexact HO
    isplitl [Ht]; · iexact Ht
    iexact Ht2
  iintro ⟨Hc, HO⟩
  iapply (wp_wait1 A c K (agr 2) (by decide) rfl 3 (by decide) (cr_x rfl)) $$ [Hc2 HO Hp]
  · isplitr; · iexact HI
    isplitr; · iexact Hl
    isplitl [Hc2]; · iexact Hc2
    isplitl [HO]; · iexact HO
    iexact Hp
  iintro ⟨HO, Hp, Hx⟩
  ihave Hx := (Entails.of_eq (show (pay A c (agr 2) false : sProp 𝕄) = own c (rows xfull (back c 3)) fullShare (xv A (back c 3)) from rfl)) $$ Hx
  ihave Hs := (Entails.of_eq (own_slot c 0 fullShare (R0 A c)).symm) $$ Hs
  ispecialize Hk $$ %_ %_ %_ %_
  iapply Hk
  isplitl [HO]; · iexact HO
  isplitl [Hc]; · iexact Hc
  isplitl [Hs]; · iapply (any_of c (slot 0) (R0 A c)); iexact Hs
  isplitl [Hp]; · iexact Hp
  iexact Hx

set_option maxHeartbeats 1600000 in
set_option maxRecDepth 65536 in
theorem run13 {α : Type} {Q : α → sProp 𝕄} (v25 v270 v271 : BitVec 32) (v272 v273 : BitVec 1) {k : (Σ' (v278 : BitVec 32), FVec F S256x1024 .bf16) → Prog (TpuEff nD τ sig (Elt F) Λ₀ .tc) α} :
    iprop(records A K
        ∗ levAts L lv
        ∗ own c (rows xfull (back c 3)) fullShare (xv A (back c 3))
        ∗ kv A arg1 arg4 c
        ∗ any c (rows pbuf (back c 3))
        ∗ crd c (rsr 1)
        ∗ ow c 3
        ∗ pos c (rsr 1) 0)
      ⊢ iprop((∀ v, iprop(ow c 3
        ∗ own c (rows xfull (back c 3)) fullShare (xv A (back c 3))
        ∗ kv A arg1 arg4 c
        ∗ any c (rows pbuf (back c 3))
        ∗ pos c (rsr 1) 1
        ∗ any c (slot 1))
          -∗ WP c (k ⟨v, k0_pay115 (PC A c (back c 3)) (uns (R1 A c))⟩) Q) -∗ WP c (k0_part13 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v25 msk v270 v271 v272 v273 >>= k) Q) := by
  rw [k0_part13_eq_skeleton]
  unfold k0_part13_skel
  simp only [semSignalWord, semWaitWord, Prog.lift, Prog.bind_op, Prog.bind_ret, Prog.pure_eq_ret, Prog.bind_assoc, wp_deviceId]
  iintro ⟨#HI, #Hl, Hy, Hkv, ⟨%Y, Hz⟩, Hc, HO, Hp⟩ Hk
  iapply (ld c (off24_eq c) (inb' := bOff_inb (back c 3))) $$ Hy
  iintro Hy
  iapply (wp_loop c arg1 arg4 kbuf vbuf cbuf dbuf msk (xv A (back c 3)) (A c).wq (A c).wo (A c).kb (A c).vb (cs3 c) k0_t3_loop rfl _ _ rfl _ (fun t acc => body3_eq arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v25 msk _ _ _ _ _ _ t acc)) $$ Hkv
  iintro Hkv
  iapply (ld c (off24_eq c) (inb' := bOff_inb (back c 3))) $$ Hz
  iintro Hz
  iapply (st c (off24_eq c) (inb' := bOff_inb (back c 3))) $$ Hz
  iintro Hz
  iapply (wp_wait1 A c K (rsr 1) (by decide) rfl 3 (by decide) (cr_s rfl 1)) $$ [Hc HO Hp]
  · isplitr; · iexact HI
    isplitr; · iexact Hl
    isplitl [Hc]; · iexact Hc
    isplitl [HO]; · iexact HO
    iexact Hp
  iintro ⟨HO, Hp, Hs⟩
  ihave Hs := (Entails.of_eq (show (pay A c (rsr 1) false : sProp 𝕄) = own c (slot 1) fullShare (R1 A c) from rfl)) $$ Hs
  ihave Hs := (Entails.of_eq (own_slot c 1 fullShare (R1 A c))) $$ Hs
  ihave Hz := (Entails.of_eq (congrArg (fun V => (own c (rows pbuf (back c 3)) fullShare V : sProp 𝕄)) (stored3 A c))) $$ Hz
  iapply (ld c (off24_eq c) (inb' := bOff_inb (back c 3))) $$ Hz
  iintro Hz
  iapply (ld c rfl (inb' := sOff_inb 1)) $$ Hs
  iintro Hs
  iapply (ld c (off24_eq c) (inb' := bOff_inb (back c 3))) $$ Hz
  iintro Hz
  ihave Hs := (Entails.of_eq (own_slot c 1 fullShare (R1 A c)).symm) $$ Hs
  ispecialize Hk $$ %_
  iapply Hk
  isplitl [HO]; · iexact HO
  isplitl [Hy]; · iexact Hy
  isplitl [Hkv]; · iexact Hkv
  isplitl [Hz]; · iapply (any_of c (rows pbuf (back c 3)) _); iexact Hz
  isplitl [Hp]; · iexact Hp
  iapply (any_of c (slot 1) (R1 A c)); iexact Hs

set_option maxHeartbeats 1600000 in
set_option maxRecDepth 65536 in
theorem run14 {α : Type} {Q : α → sProp 𝕄} (v2 v25 v278 : BitVec 32) {k : (BitVec 32) → Prog (TpuEff nD τ sig (Elt F) Λ₀ .tc) α} :
    iprop(records A K
        ∗ levAts L lv
        ∗ opens c
        ∗ opens (nxt c)
        ∗ any c (rows pbuf (back c 3))
        ∗ any (nxt c) (slot 2)
        ∗ ow c 3
        ∗ tok c (rss 2) false
        ∗ tok (nxt c) (rsr 2) false
        ∗ own c (rows xfull (back c 0)) fullShare.right (xv A (back c 0))
        ∗ kv A arg1 arg4 c
        ∗ any c (rows pbuf (back c 0))
        ∗ crd c (rsr 2)
        ∗ pos c (rsr 2) 0)
      ⊢ iprop((∀ v, iprop(crd c (rss 2)
        ∗ ow c 2
        ∗ own c (rows xfull (back c 0)) fullShare.right (xv A (back c 0))
        ∗ kv A arg1 arg4 c
        ∗ own c (rows pbuf (back c 0)) fullShare (PC A c (back c 0))
        ∗ pos c (rsr 2) 1
        ∗ own c (slot 2) fullShare (R2 A c))
          -∗ WP c (k v) Q) -∗ WP c (k0_part14 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 msk v278 (k0_pay115 (PC A c (back c 3)) (uns (R1 A c))) >>= k) Q) := by
  rw [k0_part14_eq_skeleton]
  unfold k0_part14_skel
  simp only [semSignalWord, semWaitWord, Prog.lift, Prog.bind_op, Prog.bind_ret, Prog.pure_eq_ret, Prog.bind_assoc, wp_deviceId]
  iintro ⟨#HI, #Hl, #Ho, #Ho2, ⟨%Y, Hz⟩, Hd, HO, Ht, Ht2, Hy, Hkv, ⟨%Y2, Hz2⟩, Hc, Hp⟩ Hk
  iapply (st c (off24_eq c) (inb' := bOff_inb (back c 3))) $$ Hz
  iintro Hz
  iapply (wp_rs A c K 2 (back c 3) (dev8_eq c) 2 rfl rfl rfl rfl (off35_eq c) (any_of c _ _) (Entails.of_eq (pay_rsr2 A c))) $$ [Hz Hd HO Ht Ht2]
  · isplitr; · iexact HI
    isplitr; · iexact Ho
    isplitr; · iexact Ho2
    isplitl [Hz]; · iexact Hz
    isplitl [Hd]; · iexact Hd
    isplitl [HO]; · iexact HO
    isplitl [Ht]; · iexact Ht
    iexact Ht2
  iintro ⟨Hc2, HO⟩
  iapply (ld c (off1_eq c) (inb' := bOff_inb (back c 0))) $$ Hy
  iintro Hy
  iapply (wp_loop c arg1 arg4 kbuf vbuf cbuf dbuf msk (xv A (back c 0)) (A c).wq (A c).wo (A c).kb (A c).vb (cs4 c) k0_t4_loop rfl _ _ rfl _ (fun t acc => body4_eq arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 v25 msk _ _ _ t acc)) $$ Hkv
  iintro Hkv
  iapply (ld c (off1_eq c) (inb' := bOff_inb (back c 0))) $$ Hz2
  iintro Hz2
  iapply (st c (off1_eq c) (inb' := bOff_inb (back c 0))) $$ Hz2
  iintro Hz2
  iapply (wp_wait1 A c K (rsr 2) (by decide) rfl 2 (by decide) (cr_s rfl 2)) $$ [Hc HO Hp]
  · isplitr; · iexact HI
    isplitr; · iexact Hl
    isplitl [Hc]; · iexact Hc
    isplitl [HO]; · iexact HO
    iexact Hp
  iintro ⟨HO, Hp, Hs⟩
  ihave Hs := (Entails.of_eq (show (pay A c (rsr 2) false : sProp 𝕄) = own c (slot 2) fullShare (R2 A c) from rfl)) $$ Hs
  ispecialize Hk $$ %_
  iapply Hk
  isplitl [Hc2]; · iexact Hc2
  isplitl [HO]; · iexact HO
  isplitl [Hy]; · iexact Hy
  isplitl [Hkv]; · iexact Hkv
  isplitl [Hz2]; · iapply (Entails.of_eq (congrArg (fun V => (own c (rows pbuf (back c 0)) fullShare V : sProp 𝕄)) (stored4 A c))); iexact Hz2
  isplitl [Hp]; · iexact Hp
  iexact Hs

set_option maxHeartbeats 1600000 in
set_option maxRecDepth 65536 in
theorem run15 {α : Type} {Q : α → sProp 𝕄} (v2 w : BitVec 32) {k : (PUnit) → Prog (TpuEff nD τ sig (Elt F) Λ₀ .tc) α} :
    iprop(records A K
        ∗ levAts L lv
        ∗ own c (rows pbuf (back c 0)) fullShare (PC A c (back c 0))
        ∗ own c (slot 2) fullShare (R2 A c)
        ∗ any c (part arg5 ![0, 0] S256x1024.size inb_S256x1024_S256x1024_0_0)
        ∗ ow c 2
        ∗ crd c (ags 0)
        ∗ pos c (ags 0) 0
        ∗ crd c (ags 1)
        ∗ pos c (ags 1) 0
        ∗ crd c (ags 2)
        ∗ pos c (ags 2) 0
        ∗ crd c (rss 0)
        ∗ pos c (rss 0) 0)
      ⊢ iprop((iprop(ow c 2
        ∗ any c (rows pbuf (back c 0))
        ∗ any c (slot 2)
        ∗ own c (part arg5 ![0, 0] S256x1024.size inb_S256x1024_S256x1024_0_0) fullShare (outV A c)
        ∗ pos c (ags 0) 1
        ∗ own c (rows xfull (back c 0)) fullShare.left (xv A (back c 0))
        ∗ pos c (ags 1) 1
        ∗ own c (rows xfull (back c 1)) fullShare.left (xv A (back c 1))
        ∗ pos c (ags 2) 1
        ∗ own c (rows xfull (back c 2)) fullShare.left (xv A (back c 2))
        ∗ pos c (rss 0) 1
        ∗ any c (rows pbuf (back c 1)))
          -∗ WP c (k ⟨⟩) Q) -∗ WP c (k0_part15 (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0 c v2 w >>= k) Q) := by
  rw [k0_part15_eq_skeleton]
  unfold k0_part15_skel
  simp only [semSignalWord, semWaitWord, Prog.lift, Prog.bind_op, Prog.bind_ret, Prog.pure_eq_ret, Prog.bind_assoc, wp_deviceId]
  iintro ⟨#HI, #Hl, Hz, Hs, ⟨%Y, Hd⟩, HO, Hc0, Hp0, Hc1, Hp1, Hc2, Hp2, Hc3, Hp3⟩ Hk
  ihave Hs := (Entails.of_eq (own_slot c 2 fullShare (R2 A c))) $$ Hs
  iapply (ld c (off1_eq c) (inb' := bOff_inb (back c 0))) $$ Hz
  iintro Hz
  iapply (ld c rfl (inb' := sOff_inb 2)) $$ Hs
  iintro Hs
  iapply (ld c rfl (inb' := inb_S256x1024_S256x1024_0_0)) $$ Hd
  iintro Hd
  iapply (st c rfl (inb' := inb_S256x1024_S256x1024_0_0)) $$ Hd
  iintro Hd
  iapply (wp_wait1 A c K (ags 0) (by decide) rfl 2 (by decide) (cr_x rfl)) $$ [Hc0 HO Hp0]
  · isplitr; · iexact HI
    isplitr; · iexact Hl
    isplitl [Hc0]; · iexact Hc0
    isplitl [HO]; · iexact HO
    iexact Hp0
  iintro ⟨HO, Hp0, Hx0⟩
  iapply (wp_wait1 A c K (ags 1) (by decide) rfl 2 (by decide) (cr_x rfl)) $$ [Hc1 HO Hp1]
  · isplitr; · iexact HI
    isplitr; · iexact Hl
    isplitl [Hc1]; · iexact Hc1
    isplitl [HO]; · iexact HO
    iexact Hp1
  iintro ⟨HO, Hp1, Hx1⟩
  iapply (wp_wait1 A c K (ags 2) (by decide) rfl 2 (by decide) (cr_x rfl)) $$ [Hc2 HO Hp2]
  · isplitr; · iexact HI
    isplitr; · iexact Hl
    isplitl [Hc2]; · iexact Hc2
    isplitl [HO]; · iexact HO
    iexact Hp2
  iintro ⟨HO, Hp2, Hx2⟩
  iapply (wp_wait1 A c K (rss 0) (by decide) rfl 2 (by decide) (cr_p rfl)) $$ [Hc3 HO Hp3]
  · isplitr; · iexact HI
    isplitr; · iexact Hl
    isplitl [Hc3]; · iexact Hc3
    isplitl [HO]; · iexact HO
    iexact Hp3
  iintro ⟨HO, Hp3, Hx3⟩
  ihave Hx0 := (Entails.of_eq (show (pay A c (ags 0) false : sProp 𝕄) = own c (rows xfull (back c 0)) fullShare.left (xv A (back c 0)) from rfl)) $$ Hx0
  ihave Hx1 := (Entails.of_eq (show (pay A c (ags 1) false : sProp 𝕄) = own c (rows xfull (back c 1)) fullShare.left (xv A (back c 1)) from rfl)) $$ Hx1
  ihave Hx2 := (Entails.of_eq (show (pay A c (ags 2) false : sProp 𝕄) = own c (rows xfull (back c 2)) fullShare.left (xv A (back c 2)) from rfl)) $$ Hx2
  ihave Hx3 := (Entails.of_eq (show (pay A c (rss 0) false : sProp 𝕄) = any c (rows pbuf (back c 1)) from rfl)) $$ Hx3
  ihave Hs := (Entails.of_eq (own_slot c 2 fullShare (R2 A c)).symm) $$ Hs
  iapply Hk
  isplitl [HO]; · iexact HO
  isplitl [Hz]; · iapply (any_of c (rows pbuf (back c 0)) _); iexact Hz
  isplitl [Hs]; · iapply (any_of c (slot 2) _); iexact Hs
  isplitl [Hd]; · iapply (Entails.of_eq (congrArg (fun V => (own c (part arg5 ![0, 0] S256x1024.size inb_S256x1024_S256x1024_0_0) fullShare V : sProp 𝕄)) (out_eq A c))); iexact Hd
  isplitl [Hp0]; · iexact Hp0
  isplitl [Hx0]; · iexact Hx0
  isplitl [Hp1]; · iexact Hp1
  isplitl [Hx1]; · iexact Hx1
  isplitl [Hp2]; · iexact Hp2
  isplitl [Hx2]; · iexact Hx2
  isplitl [Hp3]; · iexact Hp3
  iexact Hx3

end Parts

end Cert.KernelIdealP

end
-- ==== Proof.KernelIdeal.Body3.lean ====
/-
  The whole run of the kernel on one device: the buffers cut into the parts the protocol speaks of, and the run
  put together from its parts.
-/
module

public import proofs.«01_k».proof.Proof.KernelIdeal.Body2
public import Idealize.ShloMosaic.Lib.StableHlo.CollectiveRules

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (A : Dev nD → Inp F)

/-! ## Buffers in parts -/

section Split

variable (c : Dev nD)

section Rects
variable {sp : Space} {s : Shape} {e : EltTy} (m : Memref sig .tc sp s e) {T : Type} [Fintype T] [DecidableEq T]
  (off : T → Fin s.rank → Nat) (size : Fin s.rank → Nat) (inb : ∀ t a, off t a + size a ≤ s.size a)
  (hd : ∀ t t', t ≠ t' → Disjoint (Rect.unit (s := s) (off t) size (inb t)).set (Rect.unit (s := s) (off t') size (inb t')).set)
  (hcov : (Finset.univ : Finset T).biUnion (fun t => (Rect.unit (s := s) (off t) size (inb t)).set) = Finset.univ)
include hd hcov

/-- A buffer of any contents is its parts, each of any contents. -/
theorem any_parts : (any c m : sProp 𝕄) ⊢ bigSep Finset.univ fun t => any c (part m (off t) size (inb t)) := by
  iintro ⟨%X, H⟩
  ihave H := (owns_rects (c : Thread nD τ) m fullShare (fun t => Rect.unit (s := s) (off t) size (inb t)) (fun _ _ => rfl) hd hcov X) $$ H
  have h : (bigSep Finset.univ fun t => own c (part m (off t) size (inb t)) fullShare (sub X (off t) size (inb t)) : sProp 𝕄)
      ⊢ bigSep Finset.univ fun t => any c (part m (off t) size (inb t)) :=
    bigSep_mono (fun t _ => any_of c (part m (off t) size (inb t)) (sub X (off t) size (inb t)))
  iapply h $$ H

theorem any_unparts : (bigSep Finset.univ fun t => any c (part m (off t) size (inb t)) : sProp 𝕄) ⊢ any c m := by
  refine (bigSep_exists_pi Finset.univ fun t X => own c (part m (off t) size (inb t)) fullShare X).trans ?_
  iintro ⟨%Z, H⟩
  iexists (Rect.glue (fun t => Rect.unit (s := s) (off t) size (inb t)) hcov Z)
  iapply (owns_of_rects (c : Thread nD τ) m fullShare (fun t => Rect.unit (s := s) (off t) size (inb t)) (fun _ _ => rfl) hd hcov
    (Rect.glue (fun t => Rect.unit (s := s) (off t) size (inb t)) hcov Z))
  iapply (Entails.of_eq (bigSep_congr (fun t _ => congrArg (own c (part m (off t) size (inb t)) fullShare)
    (funext fun y => (Rect.glue_emb (fun t => Rect.unit (s := s) (off t) size (inb t)) hcov hd Z t y).symm)))) $$ H
end Rects

section Full
variable {sp : Space} {s : Shape} {e : EltTy} (m : Memref sig .tc sp s e) {off : Fin s.rank → Nat} (h : off = fun _ => 0) {inb : ∀ a, off a + s.size a ≤ s.size a}
include h

/-- The part of a memref that is all of it. -/
theorem own_full (q : PosShare TreeShare) (X : s.Idx → Elt F e) : (own c (part m off s.size inb) q X : sProp 𝕄) = own c m q X := by
  subst h
  have hX : sub X (fun _ => 0) s.size inb = X :=
    funext fun j => congrArg X (funext fun a => Fin.ext (by show 0 + 1 * (j a).val = (j a).val; omega))
  have hcov : (Finset.univ : Finset Unit).biUnion (fun _ => (Rect.unit (s := s) (fun _ => 0) s.size inb).set) = Finset.univ := by
    ext j
    simp only [Finset.mem_biUnion, Finset.mem_univ, true_and, iff_true]
    refine ⟨(), ?_⟩
    rw [← Rect.map_emb_univ, Finset.mem_map]
    exact ⟨j, Finset.mem_univ _, funext fun a => Fin.ext (by show 0 + 1 * (j a).val = (j a).val; omega)⟩
  have h₁ : (own c m q X : sProp 𝕄) ⊢ own c (part m (fun _ => 0) s.size inb) q X := by
    refine (owns_rects (c : Thread nD τ) m q (fun _ : Unit => Rect.unit (s := s) (fun _ => 0) s.size inb) (fun _ _ => rfl) (fun t t' ht => absurd rfl ht) hcov X).trans ?_
    rw [show (Finset.univ : Finset Unit) = {()} from rfl, bigSep_singleton]
    exact Entails.of_eq (congrArg (own c (part m (fun _ => 0) s.size inb) q) hX)
  have h₂ : (own c (part m (fun _ => 0) s.size inb) q X : sProp 𝕄) ⊢ own c m q X := by
    refine BIBase.Entails.trans ?_ (owns_of_rects (c : Thread nD τ) m q (fun _ : Unit => Rect.unit (s := s) (fun _ => 0) s.size inb) (fun _ _ => rfl) (fun t t' ht => absurd rfl ht) hcov X)
    rw [show (Finset.univ : Finset Unit) = {()} from rfl, bigSep_singleton]
    exact Entails.of_eq (congrArg (own c (part m (fun _ => 0) s.size inb) q) hX.symm)
  exact BI.equiv_iff.mp ⟨h₂, h₁⟩

theorem any_full : (any c (part m off s.size inb) : sProp 𝕄) = any c m :=
  congrArg BIBase.exists (funext fun X => own_full c m h fullShare X)
end Full

/-- Row `i` is of device `b` exactly if its block of 256 is. -/
theorem mem_rows (b : Dev nD) (i : S1024x1024.Idx) :
    i ∈ (Rect.unit (s := S1024x1024) (bOff b) S256x1024.size (bOff_inb b)).set ↔ (i 0).val / 256 = b.val := by
  rw [← Rect.map_emb_univ, Finset.mem_map]
  constructor
  · rintro ⟨j, -, rfl⟩
    have h0 : (j 0).val < 256 := (j 0).isLt
    show (256 * b.val + 1 * (j 0).val) / 256 = b.val
    omega
  · intro h
    have h1 : (i 1).val < 1024 := (i 1).isLt
    refine ⟨fun a => match a with
      | 0 => (⟨(i 0).val - 256 * b.val, by omega⟩ : Fin 256)
      | 1 => (⟨(i 1).val, h1⟩ : Fin 1024), Finset.mem_univ _, ?_⟩
    funext a
    match a with
    | 0 => exact Fin.ext (by show 256 * b.val + 1 * ((i 0).val - 256 * b.val) = (i 0).val; omega)
    | 1 => exact Fin.ext (by show 0 + 1 * (i 1).val = (i 1).val; omega)

theorem back_inj : ∀ (c : Dev nD) (t t' : Fin 4), back c t.val = back c t'.val → t = t' := by decide
theorem back_surj : ∀ (c b : Dev nD), ∃ t : Fin 4, back c t.val = b := by decide

theorem rows_disj (t t' : Fin 4) (h : t ≠ t') : Disjoint (Rect.unit (s := S1024x1024) (bOff (back c t.val)) S256x1024.size (bOff_inb _)).set
    (Rect.unit (s := S1024x1024) (bOff (back c t'.val)) S256x1024.size (bOff_inb _)).set :=
  Finset.disjoint_left.mpr fun i h₁ h₂ => h (back_inj c t t' (Fin.ext (((mem_rows _ i).mp h₁).symm.trans ((mem_rows _ i).mp h₂))))
theorem rows_cover : (Finset.univ : Finset (Fin 4)).biUnion
    (fun t => (Rect.unit (s := S1024x1024) (bOff (back c t.val)) S256x1024.size (bOff_inb _)).set) = Finset.univ := by
  ext i
  simp only [Finset.mem_biUnion, Finset.mem_univ, true_and, iff_true]
  have h0 : (i 0).val < 1024 := (i 0).isLt
  obtain ⟨t, ht⟩ := back_surj c ⟨(i 0).val / 256, by show _ < 4; omega⟩
  exact ⟨t, (mem_rows _ i).mpr (by rw [ht])⟩

/-- A 1024×1024 buffer in the four devices' rows. -/
theorem any_rows (m : Memref sig .tc .vmem S1024x1024 .bf16) : (any c m : sProp 𝕄)
    ⊢ iprop(any c (rows m (back c 0)) ∗ any c (rows m (back c 1)) ∗ any c (rows m (back c 2)) ∗ any c (rows m (back c 3))) :=
  (any_parts c m (fun t : Fin 4 => bOff (back c t.val)) S256x1024.size (fun t => bOff_inb _) (rows_disj c) (rows_cover c)).trans
    (Entails.of_eq (bigSep_univ_eq_bigSepL [0, 1, 2, 3] (by decide) (by decide) (fun t : Fin 4 => any c (rows m (back c t.val)))))
theorem any_unrows (m : Memref sig .tc .vmem S1024x1024 .bf16) :
    iprop(any c (rows m (back c 0)) ∗ any c (rows m (back c 1)) ∗ any c (rows m (back c 2)) ∗ any c (rows m (back c 3))) ⊢ (any c m : sProp 𝕄) :=
  (Entails.of_eq (bigSep_univ_eq_bigSepL [0, 1, 2, 3] (by decide) (by decide) (fun t : Fin 4 => any c (rows m (back c t.val)))).symm).trans
    (any_unparts c m (fun t : Fin 4 => bOff (back c t.val)) S256x1024.size (fun t => bOff_inb _) (rows_disj c) (rows_cover c))

theorem mem_slot (t : Fin 3) (i : S3x256x1024.Idx) :
    i ∈ (Rect.unit (s := S3x256x1024) ![t.val, 0, 0] S1x256x1024.size (sOff_inb t)).set ↔ (i 0).val = t.val := by
  rw [← Rect.map_emb_univ, Finset.mem_map]
  constructor
  · rintro ⟨j, -, rfl⟩
    have h0 : (j 0).val < 1 := (j 0).isLt
    show t.val + 1 * (j 0).val = t.val
    omega
  · intro h
    have h1 : (i 1).val < 256 := (i 1).isLt
    have h2 : (i 2).val < 1024 := (i 2).isLt
    refine ⟨fun a => match a with
      | 0 => (⟨0, by decide⟩ : Fin 1)
      | 1 => (⟨(i 1).val, h1⟩ : Fin 256)
      | 2 => (⟨(i 2).val, h2⟩ : Fin 1024), Finset.mem_univ _, ?_⟩
    funext a
    match a with
    | 0 => exact Fin.ext (by show t.val + 1 * 0 = (i 0).val; omega)
    | 1 => exact Fin.ext (by show 0 + 1 * (i 1).val = (i 1).val; omega)
    | 2 => exact Fin.ext (by show 0 + 1 * (i 2).val = (i 2).val; omega)

theorem slots_disj (t t' : Fin 3) (h : t ≠ t') : Disjoint (Rect.unit (s := S3x256x1024) ![t.val, 0, 0] S1x256x1024.size (sOff_inb t)).set
    (Rect.unit (s := S3x256x1024) ![t'.val, 0, 0] S1x256x1024.size (sOff_inb t')).set :=
  Finset.disjoint_left.mpr fun i h₁ h₂ => h (Fin.ext (((mem_slot _ i).mp h₁).symm.trans ((mem_slot _ i).mp h₂)))
theorem slots_cover : (Finset.univ : Finset (Fin 3)).biUnion
    (fun t => (Rect.unit (s := S3x256x1024) ![t.val, 0, 0] S1x256x1024.size (sOff_inb t)).set) = Finset.univ := by
  ext i
  simp only [Finset.mem_biUnion, Finset.mem_univ, true_and, iff_true]
  exact ⟨⟨(i 0).val, (i 0).isLt⟩, (mem_slot _ i).mpr rfl⟩

/-- A slot of any contents, read either way. -/
theorem any_slot (t : Fin 3) : (any c (slot t) : sProp 𝕄) = any c (slot3 t) := by
  have h₁ : (any c (slot t) : sProp 𝕄) ⊢ any c (slot3 t) := by
    iintro ⟨%X, H⟩
    ihave H := (Entails.of_eq (own_slot c t fullShare X)) $$ H
    iexists _; iexact H
  have h₂ : (any c (slot3 t) : sProp 𝕄) ⊢ any c (slot t) := by
    iintro ⟨%X, H⟩
    iexists (fun j => X (Shape.reshapeEquiv (Shape.Squeezes.numel_eq (s := S1x256x1024) (s' := S256x1024) squeezes_S1x256x1024_S256x1024) j))
    iapply (Entails.of_eq (own_slot c t fullShare _).symm)
    iapply (Entails.of_eq (congrArg (own c (slot3 t) fullShare) (funext fun j => congrArg X (Equiv.apply_symm_apply _ j).symm))) $$ H
  exact BI.equiv_iff.mp ⟨h₁, h₂⟩

/-- The landing buffer of the partial sums in its three slots. -/
theorem any_slots : (any c rbuf : sProp 𝕄) ⊢ iprop(any c (slot 0) ∗ any c (slot 1) ∗ any c (slot 2)) := by
  rw [any_slot, any_slot, any_slot]
  exact (any_parts c rbuf (fun t : Fin 3 => ![t.val, 0, 0]) S1x256x1024.size sOff_inb slots_disj slots_cover).trans
    (Entails.of_eq (bigSep_univ_eq_bigSepL [0, 1, 2] (by decide) (by decide) (fun t : Fin 3 => any c (slot3 t))))
theorem any_unslots : iprop(any c (slot 0) ∗ any c (slot 1) ∗ any c (slot 2)) ⊢ (any c rbuf : sProp 𝕄) := by
  rw [any_slot, any_slot, any_slot]
  exact (Entails.of_eq (bigSep_univ_eq_bigSepL [0, 1, 2] (by decide) (by decide) (fun t : Fin 3 => any c (slot3 t))).symm).trans
    (any_unparts c rbuf (fun t : Fin 3 => ![t.val, 0, 0]) S1x256x1024.size sOff_inb slots_disj slots_cover)

/-- What the barrier's signal to the device before carries, from the device's own parts. -/
theorem landing_mk : iprop(any c (rows xfull (back c 1)) ∗ any c (rows xfull (back c 2)) ∗ any c (rows xfull (back c 3))
      ∗ any c (slot 0) ∗ any c (slot 1) ∗ any c (slot 2) ∗ opens c) ⊢ (landing c (lft c) : sProp 𝕄) := by
  have e : ∀ c : Dev nD, back (lft c) 0 = back c 1 ∧ back (lft c) 1 = back c 2 ∧ back (lft c) 2 = back c 3 := by decide
  unfold landing
  rw [(e c).1, (e c).2.1, (e c).2.2]
  iintro ⟨H1, H2, H3, H4, H5, H6, H7⟩
  isplitl [H1 H2 H3]
  · isplitl [H1]; · iexact H1
    isplitl [H2]; · iexact H2
    iexact H3
  isplitl [H4 H5 H6]
  · isplitl [H4]; · iexact H4
    isplitl [H5]; · iexact H5
    iexact H6
  unfold opens; iexact H7

end Split

/-- The duties device `c` is to do. -/
def toks (c : Dev nD) : sProp 𝕄 :=
  iprop(tok (lft c) bar true
    ∗ tok (nxt c) bar false
    ∗ tok (lft c) ext true
    ∗ tok (nxt c) ext false
    ∗ tok c (ags 0) false
    ∗ tok c (ags 1) false
    ∗ tok c (ags 2) false
    ∗ tok (nxt c) (agr 0) false
    ∗ tok (nxt c) (agr 1) false
    ∗ tok (nxt c) (agr 2) false
    ∗ tok c (rss 0) false
    ∗ tok c (rss 1) false
    ∗ tok c (rss 2) false
    ∗ tok (nxt c) (rsr 0) false
    ∗ tok (nxt c) (rsr 1) false
    ∗ tok (nxt c) (rsr 2) false
    ∗ tok c (kvc 0) false
    ∗ tok c (kvc 1) false)

/-- Where device `c` stands at its cells. -/
def poss (c : Dev nD) (r : ℕ) : sProp 𝕄 :=
  iprop(pos c bar r
    ∗ pos c ext r
    ∗ pos c (ags 0) r
    ∗ pos c (ags 1) r
    ∗ pos c (ags 2) r
    ∗ pos c (agr 0) r
    ∗ pos c (agr 1) r
    ∗ pos c (agr 2) r
    ∗ pos c (rss 0) r
    ∗ pos c (rss 1) r
    ∗ pos c (rss 2) r
    ∗ pos c (rsr 0) r
    ∗ pos c (rsr 1) r
    ∗ pos c (rsr 2) r
    ∗ pos c (kvc 0) r
    ∗ pos c (kvc 1) r)

/-- What device `c` may wait for from elsewhere. -/
def crds (c : Dev nD) : sProp 𝕄 :=
  iprop(crd c bar
    ∗ crd c ext
    ∗ crd c (agr 0)
    ∗ crd c (agr 1)
    ∗ crd c (agr 2)
    ∗ crd c (rsr 0)
    ∗ crd c (rsr 1)
    ∗ crd c (rsr 2))

/-- The buffers of the kernel's scratch, at any contents. -/
def scratch (c : Dev nD) : sProp 𝕄 :=
  iprop(any c xfull ∗ any c kbuf ∗ any c vbuf ∗ any c pbuf ∗ any c rbuf ∗ any c cbuf ∗ any c dbuf)

section Parts

variable (arg0 : Memref sig .tc .vmem S256x1024 .bf16) (harg0 : arg0.IsWhole) (arg1 : Memref sig .tc .vmem S8x1024x128 .bf16) (harg1 : arg1.IsWhole)
  (arg4 : Memref sig .tc .vmem S8x128x1024 .bf16) (harg4 : arg4.IsWhole) (arg5 : Memref sig .tc .vmem S256x1024 .f32) (harg5 : arg5.IsWhole)
  (c : Dev nD) (K : Dev nD × Fin 16 → ℕ)

/-- The buffers of a head's trip, put together and taken apart. -/
theorem kv_mk : iprop(own c arg1 fullShare (A c).wq ∗ own c arg4 fullShare (A c).wo ∗ own c kbuf fullShare (A c).kb ∗ own c vbuf fullShare (A c).vb ∗ any c cbuf ∗ any c dbuf)
    ⊢ (kv A arg1 arg4 c : sProp 𝕄) := by
  rw [← any_full c cbuf (off := ![0, 0]) (by decide) (inb := inb_S256x128_S256x128_0_0), ← any_full c dbuf (off := ![0, 0]) (by decide) (inb := inb_S256x1_S256x1_0_0)]
  iintro ⟨H1, H2, H3, H4, ⟨%X, H5⟩, ⟨%Y, H6⟩⟩
  iexists (Y, X)
  unfold wkvdc kvdc
  isplitl [H1]; · iexact H1
  isplitl [H2]; · iexact H2
  isplitl [H3]; · iexact H3
  isplitl [H4]; · iexact H4
  isplitl [H6]; · iexact H6
  iexact H5
theorem kv_cases : (kv A arg1 arg4 c : sProp 𝕄)
    ⊢ iprop(own c arg1 fullShare (A c).wq ∗ own c arg4 fullShare (A c).wo ∗ own c kbuf fullShare (A c).kb ∗ own c vbuf fullShare (A c).vb ∗ any c cbuf ∗ any c dbuf) := by
  rw [← any_full c cbuf (off := ![0, 0]) (by decide) (inb := inb_S256x128_S256x128_0_0), ← any_full c dbuf (off := ![0, 0]) (by decide) (inb := inb_S256x1_S256x1_0_0)]
  iintro ⟨%p, H⟩
  unfold wkvdc kvdc
  icases H with ⟨H1, H2, H3, H4, H6, H5⟩
  isplitl [H1]; · iexact H1
  isplitl [H2]; · iexact H2
  isplitl [H3]; · iexact H3
  isplitl [H4]; · iexact H4
  isplitl [H5]; · iexists _; iexact H5
  iexists _; iexact H6

set_option maxHeartbeats 1600000 in
set_option maxRecDepth 65536 in
/-- The kernel on device `c`: from the arguments, the scratch, the duties and the standing at the cells, to its result. -/
theorem run_body {Q : PUnit → sProp 𝕄} :
    iprop((records A K ∗ levAts L lv ∗ opens c)
        ∗ (own c arg0 fullShare (A c).x ∗ own c arg1 fullShare (A c).wq ∗ own c arg4 fullShare (A c).wo ∗ any c arg5 ∗ own c kHbm fullShare (A c).kb ∗ own c vHbm fullShare (A c).vb)
        ∗ scratch c ∗ ow c 10 ∗ toks c ∗ poss c 0 ∗ crds c)
      ⊢ iprop((iprop((own c arg0 fullShare (A c).x ∗ own c arg1 fullShare (A c).wq ∗ own c arg4 fullShare (A c).wo ∗ own c arg5 fullShare (outV A c) ∗ own c kHbm fullShare (A c).kb ∗ own c vHbm fullShare (A c).vb)
          ∗ scratch c ∗ ow c 0 ∗ poss c 1) -∗ Q ⟨⟩) -∗ WP c (cc0__body (F := F) arg0 harg0 arg1 harg1 kHbm (Memref.isWhole_whole _) vHbm (Memref.isWhole_whole _) arg4 harg4 arg5 harg5 xfull (Memref.isWhole_whole _) kbuf (Memref.isWhole_whole _) vbuf (Memref.isWhole_whole _) pbuf (Memref.isWhole_whole _) rbuf (Memref.isWhole_whole _) cbuf (Memref.isWhole_whole _) dbuf (Memref.isWhole_whole _) cc0_scratch7 cc0_scratch8 cc0_scratch9 cc0_scratch10 cc0_scratch11 cc0_scoped0) Q) := by
  rw [cc0__body_eq_skeleton]
  unfold cc0__body_skel scratch toks poss crds
  iintro ⟨⟨#HI, #Hl, #Ho⟩, ⟨Hx, Hwq, Hwo, Hout, HkH, HvH⟩, ⟨Bx, Bk, Bv, Bp, Br, Bc, Bd⟩, HO, ⟨T0, T1, T2, T3, Tas0, Tas1, Tas2, Tar0, Tar1, Tar2, Trs0, Trs1, Trs2, Trr0, Trr1, Trr2, Tk0, Tk1⟩, ⟨Pb, Pe, Pags0, Pags1, Pags2, Pagr0, Pagr1, Pagr2, Prss0, Prss1, Prss2, Prsr0, Prsr1, Prsr2, Pkvc0, Pkvc1⟩, ⟨Cb, Ce, Cagr0, Cagr1, Cagr2, Crsr0, Crsr1, Crsr2⟩⟩ Hk
  ihave Bx := (any_rows c xfull) $$ Bx
  icases Bx with ⟨Bx0, Bx1, Bx2, Bx3⟩
  ihave Bp := (any_rows c pbuf) $$ Bp
  icases Bp with ⟨Bp0, Bp1, Bp2, Bp3⟩
  ihave Br := (any_slots c) $$ Br
  icases Br with ⟨Br0, Br1, Br2⟩
  ihave Hland := (landing_mk c) $$ [Bx1 Bx2 Bx3 Br0 Br1 Br2]
  · isplitl [Bx1]; · iexact Bx1
    isplitl [Bx2]; · iexact Bx2
    isplitl [Bx3]; · iexact Bx3
    isplitl [Br0]; · iexact Br0
    isplitl [Br1]; · iexact Br1
    isplitl [Br2]; · iexact Br2
    iexact Ho
  iapply (run5 A arg0 harg0 arg1 harg1 arg4 harg4 arg5 harg5 c K) $$ [HkH Bk Tk0 HvH Bv Tk1 Hland HO T0]
  · isplitr; · iexact HI
    isplitr; · iexact Ho
    isplitl [HkH]; · iexact HkH
    isplitl [Bk]; · iexact Bk
    isplitl [Tk0]; · iexact Tk0
    isplitl [HvH]; · iexact HvH
    isplitl [Bv]; · iexact Bv
    isplitl [Tk1]; · iexact Tk1
    isplitl [Hland]; · iexact Hland
    isplitl [HO]; · iexact HO
    iexact T0
  iintro %v2 %v14 %v25 ⟨Ckvc0, Ckvc1, HO⟩
  dsimp only
  iapply (run6 A arg0 harg0 arg1 harg1 arg4 harg4 arg5 harg5 c K v2 v25) $$ [HO T1 Cb Pb Hx Bx0]
  · isplitr; · iexact HI
    isplitr; · iexact Hl
    isplitr; · iapply (open_at c ext (by decide)); iexact Ho
    isplitl [HO]; · iexact HO
    isplitl [T1]; · iexact T1
    isplitl [Cb]; · iexact Cb
    isplitl [Pb]; · iexact Pb
    isplitl [Hx]; · iexact Hx
    iexact Bx0
  iintro ⟨HO, Pb, Hext, Hland, Hx, Bx0⟩
  unfold landing
  icases Hland with ⟨⟨N0, N1, N2⟩, ⟨S0, S1, S2⟩, Ho2⟩
  ihave Ho3 := (show (bigSep (Finset.univ : Finset (Fin 15)) (fun k => reached ER (cell (nxt c) k.succ) 0) : sProp 𝕄) ⊢ opens (nxt c) from Entails.of_eq rfl) $$ Ho2
  icases Ho3 with #Ho2
  ihave Bx0 := (own_halves c (rows xfull (back c 0)) (xv A (back c 0))) $$ Bx0
  icases Bx0 with ⟨L0, G0⟩
  dsimp only
  rw [k0_part7_eq_skeleton]
  unfold k0_part7_skel
  simp only [Prog.pure_eq_ret, Prog.bind_ret]
  iapply (run8 A arg0 harg0 arg1 harg1 arg4 harg4 arg5 harg5 c K v2 v25) $$ [L0 N0 HO Tas0 Tar0 Ckvc0 Pkvc0 Ckvc1 Pkvc1 Cagr0 Pagr0]
  · isplitr; · iexact HI
    isplitr; · iexact Hl
    isplitr; · iexact Ho
    isplitr; · iexact Ho2
    isplitl [L0]; · iexact L0
    isplitl [N0]; · iexact N0
    isplitl [HO]; · iexact HO
    isplitl [Tas0]; · iexact Tas0
    isplitl [Tar0]; · iexact Tar0
    isplitl [Ckvc0]; · iexact Ckvc0
    isplitl [Pkvc0]; · iexact Pkvc0
    isplitl [Ckvc1]; · iexact Ckvc1
    isplitl [Pkvc1]; · iexact Pkvc1
    isplitl [Cagr0]; · iexact Cagr0
    iexact Pagr0
  iintro ⟨HO, Cags0, Pkvc0, Bk, HkH, Pkvc1, Bv, HvH, Pagr0, Bx1⟩
  ihave Bx1 := (own_halves c (rows xfull (back c 1)) (xv A (back c 1))) $$ Bx1
  icases Bx1 with ⟨L1, G1⟩
  ihave Hkv := (kv_mk A arg1 arg4 c) $$ [Hwq Hwo Bk Bv Bc Bd]
  · isplitl [Hwq]; · iexact Hwq
    isplitl [Hwo]; · iexact Hwo
    isplitl [Bk]; · iexact Bk
    isplitl [Bv]; · iexact Bv
    isplitl [Bc]; · iexact Bc
    iexact Bd
  iapply (run9 A arg0 harg0 arg1 harg1 arg4 harg4 arg5 harg5 c K v2 v25) $$ [L1 N1 HO Tas1 Tar1 G1 Hkv Bp1]
  · isplitr; · iexact HI
    isplitr; · iexact Ho
    isplitr; · iexact Ho2
    isplitl [L1]; · iexact L1
    isplitl [N1]; · iexact N1
    isplitl [HO]; · iexact HO
    isplitl [Tas1]; · iexact Tas1
    isplitl [Tar1]; · iexact Tar1
    isplitl [G1]; · iexact G1
    isplitl [Hkv]; · iexact Hkv
    iexact Bp1
  iintro ⟨Cags1, HO, G1, Hkv, Bp1⟩
  iapply (run10 A arg0 harg0 arg1 harg1 arg4 harg4 arg5 harg5 c K v2 v25) $$ [Bp1 S0 HO Trs0 Trr0 Cagr1 Pagr1 N2 Tas2 Tar2]
  · isplitr; · iexact HI
    isplitr; · iexact Hl
    isplitr; · iexact Ho
    isplitr; · iexact Ho2
    isplitl [Bp1]; · iexact Bp1
    isplitl [S0]; · iexact S0
    isplitl [HO]; · iexact HO
    isplitl [Trs0]; · iexact Trs0
    isplitl [Trr0]; · iexact Trr0
    isplitl [Cagr1]; · iexact Cagr1
    isplitl [Pagr1]; · iexact Pagr1
    isplitl [N2]; · iexact N2
    isplitl [Tas2]; · iexact Tas2
    iexact Tar2
  iintro ⟨Crss0, Pagr1, Cags2, HO, G2⟩
  iapply (run11 A arg0 harg0 arg1 harg1 arg4 harg4 arg5 harg5 c K v2 v25) $$ [G2 Hkv Bp2 Crsr0 HO Prsr0]
  · isplitr; · iexact HI
    isplitr; · iexact Hl
    isplitl [G2]; · iexact G2
    isplitl [Hkv]; · iexact Hkv
    isplitl [Bp2]; · iexact Bp2
    isplitl [Crsr0]; · iexact Crsr0
    isplitl [HO]; · iexact HO
    iexact Prsr0
  iintro %v222 %v242 ⟨HO, G2, Hkv, Bp2, Prsr0, Br0⟩
  dsimp only
  iapply (run12 A arg0 harg0 arg1 harg1 arg4 harg4 arg5 harg5 c K v2 v25 v222 v242) $$ [Bp2 Br0 S1 HO Trs1 Trr1 Cagr2 Pagr2]
  · isplitr; · iexact HI
    isplitr; · iexact Hl
    isplitr; · iexact Ho
    isplitr; · iexact Ho2
    isplitl [Bp2]; · iexact Bp2
    isplitl [Br0]; · iexact Br0
    isplitl [S1]; · iexact S1
    isplitl [HO]; · iexact HO
    isplitl [Trs1]; · iexact Trs1
    isplitl [Trr1]; · iexact Trr1
    isplitl [Cagr2]; · iexact Cagr2
    iexact Pagr2
  iintro %v270 %v271 %v272 %v273 ⟨HO, Crss1, Br0, Pagr2, Bx3⟩
  dsimp only
  iapply (run13 A arg0 harg0 arg1 harg1 arg4 harg4 arg5 harg5 c K v25 v270 v271 v272 v273) $$ [Bx3 Hkv Bp3 Crsr1 HO Prsr1]
  · isplitr; · iexact HI
    isplitr; · iexact Hl
    isplitl [Bx3]; · iexact Bx3
    isplitl [Hkv]; · iexact Hkv
    isplitl [Bp3]; · iexact Bp3
    isplitl [Crsr1]; · iexact Crsr1
    isplitl [HO]; · iexact HO
    iexact Prsr1
  iintro %v278 ⟨HO, Bx3, Hkv, Bp3, Prsr1, Br1⟩
  dsimp only
  iapply (run14 A arg0 harg0 arg1 harg1 arg4 harg4 arg5 harg5 c K v2 v25 v278) $$ [Bp3 S2 HO Trs2 Trr2 G0 Hkv Bp0 Crsr2 Prsr2]
  · isplitr; · iexact HI
    isplitr; · iexact Hl
    isplitr; · iexact Ho
    isplitr; · iexact Ho2
    isplitl [Bp3]; · iexact Bp3
    isplitl [S2]; · iexact S2
    isplitl [HO]; · iexact HO
    isplitl [Trs2]; · iexact Trs2
    isplitl [Trr2]; · iexact Trr2
    isplitl [G0]; · iexact G0
    isplitl [Hkv]; · iexact Hkv
    isplitl [Bp0]; · iexact Bp0
    isplitl [Crsr2]; · iexact Crsr2
    iexact Prsr2
  iintro %w ⟨Crss2, HO, G0, Hkv, Bp0, Prsr2, Br2⟩
  ihave Hout := (Entails.of_eq (any_full c arg5 (by decide) (inb := inb_S256x1024_S256x1024_0_0)).symm) $$ Hout
  iapply (run15 A arg0 harg0 arg1 harg1 arg4 harg4 arg5 harg5 c K v2 w) $$ [Bp0 Br2 Hout HO Cags0 Pags0 Cags1 Pags1 Cags2 Pags2 Crss0 Prss0]
  · isplitr; · iexact HI
    isplitr; · iexact Hl
    isplitl [Bp0]; · iexact Bp0
    isplitl [Br2]; · iexact Br2
    isplitl [Hout]; · iexact Hout
    isplitl [HO]; · iexact HO
    isplitl [Cags0]; · iexact Cags0
    isplitl [Pags0]; · iexact Pags0
    isplitl [Cags1]; · iexact Cags1
    isplitl [Pags1]; · iexact Pags1
    isplitl [Cags2]; · iexact Cags2
    isplitl [Pags2]; · iexact Pags2
    isplitl [Crss0]; · iexact Crss0
    iexact Prss0
  iintro ⟨HO, Bp0, Br2, Hout, Pags0, L0, Pags1, L1, Pags2, L2, Prss0, Bp1⟩
  ihave Hout := (Entails.of_eq (own_full c arg5 (by decide) (inb := inb_S256x1024_S256x1024_0_0) fullShare (outV A c))) $$ Hout
  simp only [semSignalWord, semWaitWord, Prog.lift, Prog.bind_op, Prog.bind_ret, Prog.pure_eq_ret, Prog.bind_assoc]
  iapply (wp_wait1 A c K (rss 1) (by decide) rfl 2 (by decide) (cr_p rfl)) $$ [Crss1 HO Prss1]
  · isplitr; · iexact HI
    isplitr; · iexact Hl
    isplitl [Crss1]; · iexact Crss1
    isplitl [HO]; · iexact HO
    iexact Prss1
  iintro ⟨HO, Prss1, Bp2⟩
  ihave Bp2 := (Entails.of_eq (show (pay A c (rss 1) false : sProp 𝕄) = any c (rows pbuf (back c 2)) from rfl)) $$ Bp2
  iapply (wp_wait1 A c K (rss 2) (by decide) rfl 2 (by decide) (cr_p rfl)) $$ [Crss2 HO Prss2]
  · isplitr; · iexact HI
    isplitr; · iexact Hl
    isplitl [Crss2]; · iexact Crss2
    isplitl [HO]; · iexact HO
    iexact Prss2
  iintro ⟨HO, Prss2, Bp3⟩
  ihave Bp3 := (Entails.of_eq (show (pay A c (rss 2) false : sProp 𝕄) = any c (rows pbuf (back c 3)) from rfl)) $$ Bp3
  ihave Hext := (Entails.of_eq (show (pay A c (bar) false : sProp 𝕄) = iprop(reached ER (cell (back c 1) ext) 0) from rfl)) $$ Hext
  ihave He := (show (iprop(emp) : sProp 𝕄) ⊢ pay A (lft c) ext true from Entails.of_eq rfl) $$ []
  · iempintro
  iapply (wp_sig A c K ext true (lft c) (dev9_eq c) rfl 1 rfl rfl (by decide) rfl) $$ [He HO T2 Hext]
  · isplitr; · iexact HI
    isplitl [He]; · iexact He
    isplitl [HO]; · iexact HO
    isplitl [T2]; · iexact T2
    iexact Hext
  iintro HO
  ihave He := (show (iprop(emp) : sProp 𝕄) ⊢ pay A (nxt c) ext false from Entails.of_eq rfl) $$ []
  · iempintro
  iapply (wp_sig A c K ext false (nxt c) (dev10_eq c) rfl 0 rfl rfl (by decide) rfl) $$ [He HO T3]
  · isplitr; · iexact HI
    isplitl [He]; · iexact He
    isplitl [HO]; · iexact HO
    isplitl [T3]; · iexact T3
    iapply (open_at (nxt c) ext (by decide)); iexact Ho2
  iintro HO
  iapply (wp_wait2 A c K ext (by decide) rfl 0 (by decide) rfl) $$ [Ce HO Pe]
  · isplitr; · iexact HI
    isplitr; · iexact Hl
    isplitl [Ce]; · iexact Ce
    isplitl [HO]; · iexact HO
    iexact Pe
  iintro ⟨HO, Pe, -, -⟩
  iapply (wp_done c PUnit.unit)
  iapply Hk
  ihave Hkv := (kv_cases A arg1 arg4 c) $$ Hkv
  icases Hkv with ⟨Hwq, Hwo, Bk, Bv, Bc, Bd⟩
  ihave X0 := (own_unhalve c (rows xfull (back c 0)) (xv A (back c 0))) $$ [L0 G0]
  · isplitl [L0]; · iexact L0
    iexact G0
  ihave X1 := (own_unhalve c (rows xfull (back c 1)) (xv A (back c 1))) $$ [L1 G1]
  · isplitl [L1]; · iexact L1
    iexact G1
  ihave X2 := (own_unhalve c (rows xfull (back c 2)) (xv A (back c 2))) $$ [L2 G2]
  · isplitl [L2]; · iexact L2
    iexact G2
  isplitl [Hx Hwq Hwo Hout HkH HvH]
  · isplitl [Hx]; · iexact Hx
    isplitl [Hwq]; · iexact Hwq
    isplitl [Hwo]; · iexact Hwo
    isplitl [Hout]; · iexact Hout
    isplitl [HkH]; · iexact HkH
    iexact HvH
  isplitl [X0 X1 X2 Bx3 Bk Bv Bp0 Bp1 Bp2 Bp3 Br0 Br1 Br2 Bc Bd]
  · isplitl [X0 X1 X2 Bx3]
    · iapply (any_unrows c xfull)
      isplitl [X0]; · iapply (any_of c (rows xfull (back c 0)) _); iexact X0
      isplitl [X1]; · iapply (any_of c (rows xfull (back c 1)) _); iexact X1
      isplitl [X2]; · iapply (any_of c (rows xfull (back c 2)) _); iexact X2
      iapply (any_of c (rows xfull (back c 3)) _); iexact Bx3
    isplitl [Bk]; · iapply (any_of c kbuf _); iexact Bk
    isplitl [Bv]; · iapply (any_of c vbuf _); iexact Bv
    isplitl [Bp0 Bp1 Bp2 Bp3]
    · iapply (any_unrows c pbuf)
      isplitl [Bp0]; · iexact Bp0
      isplitl [Bp1]; · iexact Bp1
      isplitl [Bp2]; · iexact Bp2
      iexact Bp3
    isplitl [Br0 Br1 Br2]
    · iapply (any_unslots c)
      isplitl [Br0]; · iexact Br0
      isplitl [Br1]; · iexact Br1
      iexact Br2
    isplitl [Bc]; · iexact Bc
    iexact Bd
  isplitl [HO]; · iexact HO
  isplitl [Pb]; · iexact Pb
  isplitl [Pe]; · iexact Pe
  isplitl [Pags0]; · iexact Pags0
  isplitl [Pags1]; · iexact Pags1
  isplitl [Pags2]; · iexact Pags2
  isplitl [Pagr0]; · iexact Pagr0
  isplitl [Pagr1]; · iexact Pagr1
  isplitl [Pagr2]; · iexact Pagr2
  isplitl [Prss0]; · iexact Prss0
  isplitl [Prss1]; · iexact Prss1
  isplitl [Prss2]; · iexact Prss2
  isplitl [Prsr0]; · iexact Prsr0
  isplitl [Prsr1]; · iexact Prsr1
  isplitl [Prsr2]; · iexact Prsr2
  isplitl [Pkvc0]; · iexact Pkvc0
  iexact Pkvc1

end Parts

end Cert.KernelIdealP

end
-- ==== Proof.KernelIdeal.Region.lean ====
/-
  The kernel's one region: what its windows and its invariant hold, the body's obligation, and the region's record.
-/
module

public import proofs.«01_k».proof.Proof.KernelIdeal.Body3
public import proofs.«01_k».proof.Proof.Gen.KernelIdeal.Points

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- A whole buffer of core `c` at `f`. -/
abbrev pl (c : Dev nD) (b : Ref sig .tc) (f : b.ty.Contents (Elt F)) : sProp 𝕄 := ((c : Thread nD τ).loc b) ↦{fullShare} f

theorem own_whole (c : Dev nD) (b : Ref sig .tc) (X : b.ty.Contents (Elt F)) :
    (own c (Memref.whole b) fullShare X : sProp 𝕄) ⊢ pl c b X := by
  refine BIBase.Entails.trans (own_cases c (Memref.whole b) fullShare X) ?_
  simp only [Memref.view_whole, View.read_whole, View.set_whole]
  iintro ⟨%f, %hf, H⟩
  subst hf
  iexact H
theorem whole_own (c : Dev nD) (b : Ref sig .tc) (X : b.ty.Contents (Elt F)) :
    (pl c b X : sProp 𝕄) ⊢ own c (Memref.whole b) fullShare X := by
  have h := own_mk (F := F) c (Memref.whole b) fullShare (f := X) (X := X) ((View.read_whole b X))
  simp only [Memref.view_whole, View.set_whole] at h
  exact h

theorem both {I : Type} [Fintype I] {Φ Ψ : I → sProp 𝕄} :
    iprop(bigSep Finset.univ Φ ∗ bigSep Finset.univ Ψ) ⊢ bigSep Finset.univ fun i => iprop(Φ i ∗ Ψ i) :=
  Entails.of_eq (bigSep_sep' _ _ _).symm
theorem each {I : Type} [Fintype I] {Φ Ψ : I → sProp 𝕄} :
    (bigSep Finset.univ fun i => iprop(Φ i ∗ Ψ i)) ⊢ iprop(bigSep Finset.univ Φ ∗ bigSep Finset.univ Ψ) :=
  Entails.of_eq (bigSep_sep' _ _ _)

variable (m : (ℓ : Loc nD τ sig) → Buf (Elt F) ℓ)

/-- What the kernel is given on device `d`: the buffers after the first stretch of host operations. -/
def inp (d : Dev nD) : Inp F :=
  ⟨V1 m d main_v6, V1 m d main_v9, V1 m d main_v25, V1 m d main_v27, V1 m d main_v11⟩

/-- The buffers once the kernel is done: its result in `main_v28`, all others as before it. -/
abbrev W2 (c : Dev nD) : Valuation τ sig (Elt F) := Function.update (V1 m c) (Proc.devRef .tc main_v28) (outV (inp m) c)
/-- The buffers at the end. -/
abbrev W3 (c : Dev nD) : Valuation τ sig (Elt F) := StableHlo.after hostOps1 (W2 m c)
theorem W2_of (c : Dev nD) (r : Ref sig .tc) (h : r ≠ main_v28) : W2 m c r = V1 m c r :=
  Function.update_of_ne (StableHlo.devRef_ne_of_ne h) ..
theorem W2_out (c : Dev nD) : W2 m c main_v28 = outV (inp m) c := Function.update_self ..

/-- The semaphores the region opens and closes: all of the kernel's but the barrier's. -/
abbrev osem (k : Fin 15) : SemLoc sig := sm k.succ

theorem poss_eq (c : Dev nD) (r : ℕ) :
    (poss c r : sProp 𝕄) = iprop(pos c bar r ∗ bigSep (Finset.univ : Finset (Fin 15)) fun k => pos c k.succ r) := by
  rw [bigSep_univ_eq_bigSepL [(0 : Fin 15), 1, 2, 3, 4, 5, 6, 7, 8, 9, 10, 11, 12, 13, 14] (by decide) (by decide)]
  unfold poss
  rfl

/-- What device `c` brings to the region. -/
def Tk (c : Dev nD) : sProp 𝕄 :=
  iprop((∃ K, records (inp m) K) ∗ pos c bar 0 ∗ (bigSep (Finset.univ : Finset (Fin 15)) fun k => openTok ER (cell c k.succ)) ∗ toks c ∗ crds c)
/-- The same with the region's semaphores opened. -/
def Xk (c : Dev nD) : sProp 𝕄 :=
  iprop((∃ K, records (inp m) K) ∗ poss c 0 ∗ opens c ∗ toks c ∗ crds c ∗ levAts L lv)
/-- What it takes away. -/
def Yk (c : Dev nD) : sProp 𝕄 := semVal (cell c bar) 0
def zeros (c : Dev nD) : sProp 𝕄 := bigSep (Finset.univ : Finset (Fin 15)) fun k => semVal (cell c k.succ) 0
/-- The keys and values, which the kernel fetches itself. -/
def keep (c : Dev nD) : sProp 𝕄 := iprop(own c kHbm fullShare (inp m c).kb ∗ own c vHbm fullShare (inp m c).vb)

theorem hopen (c : Dev nD) : iprop(Tk m c ∗ Pipeline.ownSems0 osem c ∗ levAts L lv) ⊢ (|={Set.univ}=> Xk m c : sProp 𝕄) := by
  unfold Tk Xk opens
  rw [poss_eq, show (Pipeline.ownSems0 osem c : sProp 𝕄) = bigSep (Finset.univ : Finset (Fin 15)) fun k => semVal (cell c k.succ) 0 from rfl]
  iintro ⟨⟨⟨%K, #HR⟩, Hb, Ho, Ht, Hc⟩, Hs, #Hl⟩
  have h (k : Fin 15) : iprop(records (inp m) K ∗ (openTok ER (cell c k.succ) ∗ semVal (cell c k.succ) 0))
      ⊢ (|={Set.univ}=> iprop(pos c k.succ 0 ∗ reached ER (cell c k.succ) 0) : sProp 𝕄) := by
    iintro ⟨#HR, Ho, Hs⟩
    iapply (Rounds.cell_open ER (sched (inp m)) (g := cell c k.succ) (Set.mem_univ (K (c, k.succ)))) $$ [Ho Hs]
    isplitr; · iapply (inv_at (inp m) K c k.succ); iexact HR
    isplitl [Ho] <;> iassumption
  have hall : iprop(records (inp m) K ∗ bigSep (Finset.univ : Finset (Fin 15)) fun k => iprop(openTok ER (cell c k.succ) ∗ semVal (cell c k.succ) 0))
      ⊢ (|={Set.univ}=> bigSep (Finset.univ : Finset (Fin 15)) fun k => iprop(pos c k.succ 0 ∗ reached ER (cell c k.succ) 0) : sProp 𝕄) :=
    BIBase.Entails.trans (bigSep_with_persistent (R := records (inp m) K) fun k _ => h k) (bigSep_fupd _ _)
  imod hall $$ [Ho Hs] with H
  · isplitr; · iexact HR
    iapply (both (F := F))
    isplitl [Ho]; · iexact Ho
    iexact Hs
  imodintro
  ihave H' := (each (F := F)) $$ H; icases H' with ⟨Hp, Hr⟩
  isplitr; · iexists K; iexact HR
  isplitl [Hb Hp]; · isplitl [Hb] <;> iassumption
  isplitl [Hr]; · iexact Hr
  isplitl [Ht]; · iexact Ht
  isplitl [Hc]; · iexact Hc
  iexact Hl

/-- Once the body has come to its end every cell is past its round: the counters come back, at zero. -/
theorem closing (K : Dev nD × Fin 16 → ℕ) (c : Dev nD) : iprop(records (inp m) K ∗ poss c 1)
    ⊢ (|={Set.univ}=> iprop(semVal (cell c bar) 0 ∗ zeros c) : sProp 𝕄) := by
  unfold zeros
  rw [poss_eq]
  have h (k : Fin 16) : iprop(records (inp m) K ∗ pos c k 1) ⊢ (|={Set.univ}=> semVal (cell c k) 0 : sProp 𝕄) := by
    iintro ⟨#HR, Hp⟩
    iapply (Rounds.cell_close ER (sched (inp m)) (g := cell c k) (R := 1) (Set.mem_univ (K (c, k))) id (duties_later (inp m) (cell c k))) $$ [Hp]
    isplitr; · iapply (inv_at (inp m) K c k); iexact HR
    iexact Hp
  have hall : iprop(records (inp m) K ∗ bigSep (Finset.univ : Finset (Fin 15)) fun k => pos c k.succ 1)
      ⊢ (|={Set.univ}=> bigSep (Finset.univ : Finset (Fin 15)) fun k => semVal (cell c k.succ) 0 : sProp 𝕄) :=
    BIBase.Entails.trans (bigSep_with_persistent (R := records (inp m) K) fun k _ => h k.succ) (bigSep_fupd _ _)
  iintro ⟨#HR, Hb, Hp⟩
  imod (h bar) $$ [Hb] with Hb
  · isplitr; · iexact HR
    iexact Hb
  imod hall $$ [Hp] with Hp
  · isplitr; · iexact HR
    iexact Hp
  imodintro
  isplitl [Hb] <;> iassumption

/-! ## The windows and the body -/

def dat0 (c : Dev nD) : Dat τ (Elt F) Unit ℕ UU ℕ cfg0 c where
  A w := V1 m c (Proc.devRef .tc (Pipeline.arrRef spec0 w))
  after w _ := match w with
    | ⟨0, _⟩ => (inp m c).x
    | ⟨1, _⟩ => (inp m c).wq
    | ⟨2, _⟩ => (inp m c).wo
    | ⟨3, _⟩ => outV (inp m) c
  Φ t := match t with
    | ⟨0, _⟩ => iprop(Xk m c ∗ scratch c ∗ keep m c ∗ ∃ r, prngReg c r)
    | ⟨_ + 1, _⟩ => iprop((semVal (cell c bar) 0 ∗ zeros c) ∗ scratch c ∗ keep m c ∗ ∃ r, prngReg c r)
  q _ := fullShare
  owed t := match t with
    | ⟨0, _⟩ => owed c 10
    | ⟨_ + 1, _⟩ => 0

def pdats : (p : Fin 1) → (c : Dev nD) → Dat τ (Elt F) Unit ℕ UU ℕ (Pipeline.pin (pcfgs (F := F)) adm p) c
  | 0 => dat0 m

theorem share_eq (c : Dev nD) (w : Fin 4) : (dat0 m c).share w = fullShare := by unfold Dat.share; split <;> rfl

theorem before_0 (c : Dev nD) (d) : (dat0 m c).before 0 t0_0 d = (inp m c).x := by
  unfold Dat.before; rw [if_pos (fetch0_0 _)]
  show ((cfg0.win 0).blk t0_0).view.read (Elt F) (V1 m c (Proc.devRef .tc main_v6)) = _
  unfold inp
  generalize V1 m c (Proc.devRef .tc main_v6) = f
  exact Memref.read_access_unit_zero (Elt F) main_v6 (off := fun a => win0_0.index (0 : Fin 1) a * main_v6.ty.shape.size a)
    (funext fun a => by fin_cases a <;> decide) (fun a => by fin_cases a <;> decide) _
theorem before_1 (c : Dev nD) (d) : (dat0 m c).before 1 t0_0 d = (inp m c).wq := by
  unfold Dat.before; rw [if_pos (fetch0_1 _)]
  show ((cfg0.win 1).blk t0_0).view.read (Elt F) (V1 m c (Proc.devRef .tc main_v9)) = _
  unfold inp
  generalize V1 m c (Proc.devRef .tc main_v9) = f
  exact Memref.read_access_unit_zero (Elt F) main_v9 (off := fun a => win0_1.index (0 : Fin 1) a * main_v9.ty.shape.size a)
    (funext fun a => by fin_cases a <;> decide) (fun a => by fin_cases a <;> decide) _
theorem before_2 (c : Dev nD) (d) : (dat0 m c).before 2 t0_0 d = (inp m c).wo := by
  unfold Dat.before; rw [if_pos (fetch0_2 _)]
  show ((cfg0.win 2).blk t0_0).view.read (Elt F) (V1 m c (Proc.devRef .tc main_v11)) = _
  unfold inp
  generalize V1 m c (Proc.devRef .tc main_v11) = f
  exact Memref.read_access_unit_zero (Elt F) main_v11 (off := fun a => win0_2.index (0 : Fin 1) a * main_v11.ty.shape.size a)
    (funext fun a => by fin_cases a <;> decide) (fun a => by fin_cases a <;> decide) _

/-- The region's result: the window is the whole array, so what the body leaves is what the array ends with. -/
theorem arr_out (c : Dev nD) : (dat0 m c).arrAt 3 cfg0.N = outV (inp m) c := by
  rw [show cfg0.N = t0_0.val + 1 from rfl, (dat0 m c).arrAt_succ (3 : Fin 4) t0_0]
  rw [show (cfg0.win (3 : Fin 4)).flush t0_0 = true from flush0_3 _, if_pos rfl]
  exact Memref.write_access_unit_zero_univ (Elt F) main_v28 (off := fun a => win0_3.index (0 : Fin 1) a * main_v28.ty.shape.size a)
    (funext fun a => by fin_cases a <;> decide) (fun a => by fin_cases a <;> decide) _ _

theorem owesAt_in (c : Dev nD) (t : Fin (cfg0.N + 1)) (O : CellTallies nD τ sig Unit) (h : (dat0 m c).owed t = O) :
    iprop(∃ W, owes (c : Thread nD τ) O W) ⊢ ((dat0 m c).owesAt () t : sProp 𝕄) := by
  unfold Dat.owesAt Pipeline.owesWithin Dat.bound
  rw [h]
  iintro ⟨%W, H⟩
  iexists W
  isplitr; · ipureintro; exact fun _ _ => Or.inl trivial
  iexact H
theorem owesAt_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin
  rw [h]
  iintro ⟨%W, -, H⟩
  iexists W; iexact H

/-- The body on the staged windows, its cells opened before and closed after. -/
theorem body_all (c : Dev nD) (K : Dev nD × Fin 16 → ℕ) :
    iprop((records (inp m) K ∗ levAts L lv ∗ opens c)
      ∗ (own c (st0_0 t0_0) fullShare (inp m c).x ∗ own c (st0_1 t0_0) fullShare (inp m c).wq ∗ own c (st0_2 t0_0) fullShare (inp m c).wo
        ∗ any c (st0_3 t0_0) ∗ keep m c)
      ∗ scratch c ∗ ow c 10 ∗ toks c ∗ poss c 0 ∗ crds c)
    ⊢ WP (F := F) c (bodyAt0 (F := F) t0_0) fun _ =>
        iprop((own c (st0_0 t0_0) fullShare (inp m c).x ∗ own c (st0_1 t0_0) fullShare (inp m c).wq ∗ own c (st0_2 t0_0) fullShare (inp m c).wo
          ∗ own c (st0_3 t0_0) fullShare (outV (inp m) c) ∗ keep m c)
        ∗ scratch c ∗ ow c 0 ∗ semVal (cell c bar) 0 ∗ zeros c) := by
  unfold keep
  iintro ⟨⟨#HR, #Hl, Hop⟩, ⟨H0, H1, H2, H3, Hk, Hv⟩, Hs, HO, Ht, Hp, Hc⟩
  iapply (wp_fupd frame (wpE (defs₀ (F := F)) 𝒱₀ (c : Thread nD τ) none) Set.univ (bodyAt0 (F := F) t0_0) _)
  iapply (run_body (inp m) (st0_0 t0_0) (hstage0_0 0) (st0_1 t0_0) (hstage0_1 0) (st0_2 t0_0) (hstage0_2 0) (st0_3 t0_0) (hstage0_3 0) c K)
    $$ [H0 H1 H2 H3 Hk Hv Hs HO Ht Hp Hc Hop]
  · isplitl [Hop]
    · isplitr; · iexact HR
      isplitr; · iexact Hl
      iexact Hop
    isplitl [H0 H1 H2 H3 Hk Hv]
    · isplitl [H0]; · iexact H0
      isplitl [H1]; · iexact H1
      isplitl [H2]; · iexact H2
      isplitl [H3]; · iexact H3
      isplitl [Hk]; · iexact Hk
      iexact Hv
    isplitl [Hs]; · iexact Hs
    isplitl [HO]; · iexact HO
    isplitl [Ht]; · iexact Ht
    isplitl [Hp]; · iexact Hp
    iexact Hc
  iintro ⟨⟨H0, H1, H2, H3, Hk, Hv⟩, Hs, HO, Hp⟩
  imod (closing m K c) $$ [Hp] with ⟨Hb, Hz⟩
  · isplitr; · iexact HR
    iexact Hp
  imodintro
  isplitl [H0 H1 H2 H3 Hk Hv]
  · isplitl [H0]; · iexact H0
    isplitl [H1]; · iexact H1
    isplitl [H2]; · iexact H2
    isplitl [H3]; · iexact H3
    isplitl [Hk]; · iexact Hk
    iexact Hv
  isplitl [Hs]; · iexact Hs
  isplitl [HO]; · iexact HO
  isplitl [Hb] <;> iassumption

theorem body_obligation (c : Dev nD) : BodyObligation (dat0 (F := F) m c) (defs₀ (F := F)) 𝒱₀ () Set.univ := fun t => by
  obtain rfl := fin_N0 t
  rw [bigSep_W0, bigSep_W0]
  rw [show (dat0 m c).Φ t0_0.castSucc = iprop(Xk m c ∗ scratch c ∗ keep m c ∗ ∃ r, prngReg c r) from rfl,
    show (dat0 m c).Φ t0_0.succ = iprop((semVal (cell c bar) 0 ∗ zeros c) ∗ scratch c ∗ keep m c ∗ ∃ r, prngReg c r) from rfl]
  unfold Xk
  iintro ⟨⟨⟨⟨%K, #HR⟩, Hp, Hop, Ht, Hc, #Hl⟩, Hs, Hk, Hpr⟩, HO, ⟨%d0, H0⟩, ⟨%d1, H1⟩, ⟨%d2, H2⟩, H3⟩
  ihave HO' := (owesAt_out m c _ (owed c 10) rfl) $$ HO
  rw [before_0, before_1, before_2]
  iapply (wp_wand_r frame (wpE (defs₀ (F := F)) 𝒱₀ (c : Thread nD τ) none) Set.univ (Q := fun _ =>
    iprop((own c (st0_0 t0_0) fullShare (inp m c).x ∗ own c (st0_1 t0_0) fullShare (inp m c).wq ∗ own c (st0_2 t0_0) fullShare (inp m c).wo
          ∗ own c (st0_3 t0_0) fullShare (outV (inp m) c) ∗ keep m c)
        ∗ scratch c ∗ ow c 0 ∗ semVal (cell c bar) 0 ∗ zeros c)))
  isplitr [Hpr]
  · iapply (body_all m c K)
    isplitl [Hop]
    · isplitr; · iexact HR
      isplitr; · iexact Hl
      iexact Hop
    isplitl [H0 H1 H2 H3 Hk]
    · isplitl [H0]; · iexact H0
      isplitl [H1]; · iexact H1
      isplitl [H2]; · iexact H2
      isplitl [H3]
      · icases H3 with ⟨%d3, H3⟩
        iexists _; iexact H3
      iexact Hk
    isplitl [Hs]; · iexact Hs
    isplitl [HO']; · iexact HO'
    isplitl [Ht]; · iexact Ht
    isplitl [Hp]; · iexact Hp
    iexact Hc
  iintro %a ⟨⟨H0, H1, H2, H3, Hk⟩, Hs, HO, Hb, Hz⟩
  isplitl [Hb Hz Hs Hk Hpr]
  · isplitl [Hb Hz]; · isplitl [Hb] <;> iassumption
    isplitl [Hs]; · iexact Hs
    isplitl [Hk]; · iexact Hk
    iexact Hpr
  isplitl [HO]; · iapply (owesAt_in m c t0_0.succ 0 rfl); iexact HO
  isplitl [H0]; · iexact H0
  isplitl [H1]; · iexact H1
  isplitl [H2]; · iexact H2
  iexact H3

/-! ## The region's record -/

/-- The buffers the body addresses itself. -/
abbrev Hs : Finset (DevRef τ sig) := {Proc.devRef .tc main_v25, Proc.devRef .tc main_v27}
/-- The buffers that stage no window. -/
abbrev Sr : Finset (DevRef τ sig) := Pipeline.ucRefs τ sig \ Pipeline.arrRefs (τ := τ) spec0

theorem held_two (c : Dev nD) (W : Valuation τ sig (Elt F)) :
    (StableHlo.held (c : Thread nD τ) Hs W : sProp 𝕄) = iprop(pl c main_v25 (W main_v25) ∗ pl c main_v27 (W main_v27)) := by
  unfold StableHlo.held
  rw [bigSep_eq_bigSepL_of_eq [Proc.devRef .tc main_v25, Proc.devRef .tc main_v27] (by decide) (by decide)]
  rfl

theorem keep_held (c : Dev nD) : (StableHlo.held (c : Thread nD τ) Hs (V1 m c) : sProp 𝕄) ⊢ keep m c := by
  rw [held_two]; unfold keep
  exact BI.sep_mono (whole_own c main_v25 _) (whole_own c main_v27 _)
theorem held_keep (c : Dev nD) : (keep m c : sProp 𝕄) ⊢ StableHlo.held (c : Thread nD τ) Hs (W2 m c) := by
  rw [held_two, W2_of m c main_v25 (by decide), W2_of m c main_v27 (by decide)]; unfold keep
  exact BI.sep_mono (own_whole c main_v25 _) (own_whole c main_v27 _)

theorem any_whole (c : Dev nD) (b : Ref sig .tc) :
    (any c (Memref.whole b) : sProp 𝕄) ⊢ iprop(∃ f : b.ty.Contents (Elt F), pl c b f) := by
  iintro ⟨%X, H⟩; iexists X; iapply (own_whole c b X); iexact H
theorem whole_any (c : Dev nD) (b : Ref sig .tc) :
    iprop(∃ f : b.ty.Contents (Elt F), pl c b f) ⊢ (any c (Memref.whole b) : sProp 𝕄) := by
  iintro ⟨%X, H⟩; iexists X; iapply (whole_own c b X); iexact H

theorem rest_scratch (c : Dev nD) :
    (Pipeline.scopedRest (Ix := Unit) (Name := ℕ) (U := UU) (Lvl := ℕ) (Val := Elt F) spec0 c : sProp 𝕄) ⊢ scratch c := by
  rw [scopedRest0_eq]; unfold scratch
  iintro ⟨H0, H1, H2, H3, H4, H5, H6⟩
  isplitl [H0]; · iapply (whole_any (F := F) c cc0_scratch0); iexact H0
  isplitl [H1]; · iapply (whole_any (F := F) c cc0_scratch1); iexact H1
  isplitl [H2]; · iapply (whole_any (F := F) c cc0_scratch2); iexact H2
  isplitl [H3]; · iapply (whole_any (F := F) c cc0_scratch3); iexact H3
  isplitl [H4]; · iapply (whole_any (F := F) c cc0_scratch4); iexact H4
  isplitl [H5]; · iapply (whole_any (F := F) c cc0_scratch5); iexact H5
  iapply (whole_any (F := F) c cc0_scratch6); iexact H6
theorem scratch_rest (c : Dev nD) :
    (scratch c : sProp 𝕄) ⊢ Pipeline.scopedRest (Ix := Unit) (Name := ℕ) (U := UU) (Lvl := ℕ) (Val := Elt F) spec0 c := by
  rw [scopedRest0_eq]; unfold scratch
  iintro ⟨H0, H1, H2, H3, H4, H5, H6⟩
  isplitl [H0]; · iapply (any_whole (F := F) c cc0_scratch0); iexact H0
  isplitl [H1]; · iapply (any_whole (F := F) c cc0_scratch1); iexact H1
  isplitl [H2]; · iapply (any_whole (F := F) c cc0_scratch2); iexact H2
  isplitl [H3]; · iapply (any_whole (F := F) c cc0_scratch3); iexact H3
  isplitl [H4]; · iapply (any_whole (F := F) c cc0_scratch4); iexact H4
  isplitl [H5]; · iapply (any_whole (F := F) c cc0_scratch5); iexact H5
  iapply (any_whole (F := F) c cc0_scratch6); iexact H6

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r)
      ∗ StableHlo.held (c.tc : Thread nD τ) Hs (V1 m c) ∗ Xk m c) ⊢ (pdats m 0 c).Φ 0 := by
  rw [show (pdats m 0 c).Φ 0 = iprop(Xk m c ∗ scratch c ∗ keep m c ∗ ∃ r, prngReg c r) from rfl]
  iintro ⟨Hs, Hp, Hh, HX⟩
  isplitl [HX]; · iexact HX
  isplitl [Hs]; · iapply (rest_scratch (F := F) c); iexact Hs
  isplitl [Hh]; · iapply (keep_held m c); iexact Hh
  iexact Hp
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (W2 m c) ∗ Pipeline.ownSems0 osem c ∗ Yk c) := by
  rw [show (pdats m 0 c).Φ (Fin.last _) = iprop((semVal (cell c bar) 0 ∗ zeros c) ∗ scratch c ∗ keep m c ∗ ∃ r, prngReg c r) from rfl,
    show (Pipeline.ownSems0 osem c : sProp 𝕄) = zeros c from rfl, show (Yk c : sProp 𝕄) = semVal (cell c bar) 0 from rfl]
  iintro ⟨⟨Hb, Hz⟩, Hs, Hk, Hp⟩
  isplitl [Hs]; · iapply (scratch_rest (F := F) c); iexact Hs
  isplitl [Hp]; · iexact Hp
  isplitl [Hk]; · iapply (held_keep m c); iexact Hk
  isplitl [Hz]; · iexact Hz
  iexact Hb

theorem lv_due : ∀ j, j < 10 → 0 < lvK (dueK j) := by decide

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = owed c 10 ∨ (pdats (F := F) m 0 c).owed t = 0 := by
    rcases t with ⟨_ | _, ht⟩
    · exact .inl rfl
    · exact .inr rfl
  rcases e with e | e <;> rw [e] at h
  · obtain ⟨j, hj, rfl⟩ := owed_pos c 10 h
    refine ⟨by rw [L_tc]; exact Finset.mem_singleton_self _, ?_⟩
    rw [lv_cell]; exact lv_due j hj
  · exact absurd h (Nat.lt_irrefl 0)

theorem sr_rest (c : Dev nD) : ∀ b ∈ (Sr : Finset (DevRef τ sig)) \ Hs, W2 m c b = V1 m c b := fun b hb => by
  refine Function.update_of_ne (fun h => ?_) ..
  subst h
  exact absurd hb (by decide)

theorem arr_in (c : Dev nD) (w : Fin 4) : (pdats m 0 c).arrAt w 0 = V1 m c (Proc.devRef .tc (Pipeline.arrRef spec0 w)) := rfl
theorem arr_end (c : Dev nD) (w : Fin 4) :
    (pdats m 0 c).arrAt w (Pipeline.pin (pcfgs (F := F)) adm 0).N = W2 m c (Proc.devRef .tc (Pipeline.arrRef spec0 w)) := by
  fin_cases w
  · exact ((dat0 m c).arrAt_in 0 rfl _).trans (W2_of m c main_v6 (by decide)).symm
  · exact ((dat0 m c).arrAt_in 1 rfl _).trans (W2_of m c main_v9 (by decide)).symm
  · exact ((dat0 m c).arrAt_in 2 rfl _).trans (W2_of m c main_v11 (by decide)).symm
  · exact (arr_out m c).trans (W2_out m c).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr (by decide) kitP rfl (fun c => (body_obligation m c).loose)
    (fun _ => 0) (fun c => owed c 10) (fun c => (zero_add _).symm) (fun _ => rfl) (fun _ => rfl) (share_eq m)
    (V1 m) (W2 m) (sr_rest m)
    (Tk m) Yk (Xk m) Yk (hopen m) (hin m) (hout m)
    (fun c => by iintro H; imodintro; iexact H)
    (fun _ => 0)
    ⟨fun c w s => by rw [show L _ = {()} from L_tc c _]; exact Finset.mem_singleton_self _,
      fun c w s => Nat.le_of_eq (by fin_cases w <;> fin_cases s <;> rfl),
      fun c t g i h => cut m c t g i h⟩
    (fun _ => iprop(emp))
    (arr_in m) (arr_end m)

end Cert.KernelIdealP

end
-- ==== Proof.KernelIdeal.Run.lean ====
/-
  The launch: the cells and their tokens are made on every device at once and dealt out; then the whole program runs,
  the host operations, the region and the last reshape, and its final memory is read.
-/
module

public import proofs.«01_k».proof.Proof.KernelIdeal.Region

@[expose] public section

noncomputable section

namespace Cert.KernelIdealP

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]
local notation "𝕄" => MT nD τ sig Unit (Elt F) ℕ UU ℕ

variable (m : (ℓ : Loc nD τ sig) → Buf (Elt F) ℓ) (ρ : Dev nD → PrngReg)

/-! ## The cells and the tokens -/

theorem cell_inj {c c' : Dev nD} {k k' : Fin 16} (h : cell c k = cell c' k') : c = c' ∧ k = k' :=
  ⟨congrArg (fun g : GSem nD τ sig => g.1.1) h, sm_inj (congrArg Prod.snd h)⟩

def allEmb : Dev nD × Fin 16 ↪ GSem nD τ sig :=
  ⟨fun p => cell p.1 p.2, fun p q h => Prod.ext (cell_inj h).1 (cell_inj h).2⟩
def barEmb : Dev nD ↪ GSem nD τ sig := ⟨fun c => cell c bar, fun _ _ h => (cell_inj h).1⟩
def scEmb : Dev nD × Fin 15 ↪ GSem nD τ sig :=
  ⟨fun p => cell p.1 p.2.succ, fun p q h => Prod.ext (cell_inj h).1 (Fin.succ_injective _ (cell_inj h).2)⟩
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact Fin.succ_ne_zero _ (cell_inj h).2

theorem cells_all : barCells ∪ scCells = Finset.univ.map allEmb := by
  ext g
  simp only [Finset.mem_union, Finset.mem_map, Finset.mem_univ, true_and]
  constructor
  · rintro (⟨c, rfl⟩ | ⟨p, rfl⟩)
    · exact ⟨(c, bar), rfl⟩
    · exact ⟨(p.1, p.2.succ), rfl⟩
  · rintro ⟨⟨c, k⟩, rfl⟩
    rcases Fin.eq_zero_or_eq_succ k with rfl | ⟨j, rfl⟩
    · exact .inl ⟨c, rfl⟩
    · exact .inr ⟨(c, j), rfl⟩

/-- The tokens a device pays with: whose cell, which cell, which of its duties. -/
def tkD (c : Dev nD) : Fin 18 → Dev nD :=
  ![lft c, nxt c, lft c, nxt c, c, c, c, nxt c, nxt c, nxt c, c, c, c, nxt c, nxt c, nxt c, c, c]
def tkK : Fin 18 → Fin 16 := ![0, 0, 1, 1, 2, 3, 4, 5, 6, 7, 8, 9, 10, 11, 12, 13, 14, 15]
def tkB : Fin 18 → Bool :=
  ![true, false, true, false, false, false, false, false, false, false, false, false, false, false, false, false, false, false]
theorem tk_dev : ∀ (j : Fin 18) (c c' : Dev nD), tkD c j = tkD c' j → c = c' := by decide
theorem tk_sem : ∀ j j' : Fin 18, tkK j = tkK j' → tkB j = tkB j' → j = j' := by decide
def tkEmb : Dev nD × Fin 18 ↪ GSem nD τ sig × ℕ × Bool :=
  ⟨fun p => (cell (tkD p.1 p.2) (tkK p.2), 0, tkB p.2), fun p q h => by
    have h₁ := cell_inj (congrArg Prod.fst h)
    have h₂ := tk_sem p.2 q.2 h₁.2 (congrArg (fun t : GSem nD τ sig × ℕ × Bool => t.2.2) h)
    exact Prod.ext (tk_dev q.2 p.1 q.1 (h₂ ▸ h₁.1)) h₂⟩
abbrev talkToks : Finset (GSem nD τ sig × ℕ × Bool) := Finset.univ.map tkEmb

theorem toks_eq : bigSep talkToks (fun x => (dutyTok ER x.1 x.2.1 x.2.2 : sProp 𝕄)) = bigSep Finset.univ fun c : Dev nD => toks c := by
  rw [bigSep_map, bigSep_univ_prod]
  refine bigSep_congr fun c _ => ?_
  rw [bigSep_univ_eq_bigSepL [(0 : Fin 18), 1, 2, 3, 4, 5, 6, 7, 8, 9, 10, 11, 12, 13, 14, 15, 16, 17] (by decide) (by decide)]
  unfold toks
  rfl

/-- The launch element: the pipeline's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- A thing kept at one device. -/
def parked (X : sProp 𝕄) (c : Dev nD) : sProp 𝕄 := if c = 0 then X else iprop(emp)
theorem parked_eq (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp
def G : Dev nD → sProp 𝕄 := parked (BI.own (ER (launchOf barCells scCells talkToks)))

/-! ## The credit -/

/-- How often `n` payments of device `d` go to cell `k` of device `c`. -/
def times (d c : Dev nD) (k : Fin 16) : ℕ → ℕ
  | 0 => 0
  | n + 1 => times d c k n + if c = dueD d n ∧ k = dueK n then 1 else 0
theorem owed_times (d c : Dev nD) (k : Fin 16) : ∀ n, owed d n (cell c k) () = times d c k n * amt k
  | 0 => (Nat.zero_mul _).symm
  | n + 1 => by
    unfold owed times
    rw [Pi.add_apply, Finsupp.add_apply, owed_times d c k n, tallyAt_apply, Nat.add_mul]
    congr 1
    by_cases h : c = dueD d n ∧ k = dueK n
    · rw [if_pos h, if_pos ⟨by rw [h.1, h.2], rfl⟩, h.2, Nat.one_mul]
    · rw [if_neg h, if_neg (fun h' => h (cell_inj h'.1)), Nat.zero_mul]

/-- The cells a device waits on that others pay. -/
abbrev paid : Finset (Fin 16) := {0, 1, 5, 6, 7, 11, 12, 13}
theorem times_sum : ∀ k ∈ paid, ∀ c : Dev nD, ∑ d : Dev nD, times d c k 10 = if k.val < 2 then 2 else 1 := by decide
theorem paid_tot : ∀ k ∈ paid, (if k.val < 2 then 2 else 1) * amt k = tot k := fun k hk => by
  have h : k.val < 14 := (by decide : ∀ k ∈ paid, k.val < 14) k hk
  unfold amt tot
  by_cases h2 : k.val < 2
  · rw [if_pos h2, if_pos h2, if_pos h2]
  · rw [if_neg h2, if_neg h2, if_neg h2, Nat.one_mul, if_pos h]

theorem launch_cell (c : Dev nD) (k : Fin 16) (hk : k ∈ paid) :
    tallyOn (cell c k) (launchCredit (Pipeline.owing fun d => owed d 10) 0 (cell c k)) = (tallyAt (cell c k) () (tot k) : CellTallies nD τ sig Unit) := by
  unfold tallyAt; refine congrArg _ (Finsupp.ext fun u => ?_); cases u
  rw [Pipeline.launchCredit_owing, Finsupp.single_eq_same, Finset.sum_congr rfl fun d _ => owed_times d c k 10, ← Finset.sum_mul,
    times_sum k hk c, paid_tot k hk]

theorem creds (c : Dev nD) : (Pipeline.launchCred (fun d => owed d 10) c : sProp 𝕄) ⊢ crds c := by
  unfold Pipeline.launchCred
  refine BIBase.Entails.trans (bigSep_subset (Finset.subset_univ (paid.map ⟨sm, sm_inj⟩))) ?_
  rw [bigSep_map]
  show bigSep paid (fun k => (cred (tallyOn (cell c k) (launchCredit (Pipeline.owing fun d => owed d 10) 0 (cell c k))) : sProp 𝕄)) ⊢ _
  rw [bigSep_congr (s := paid) (Ψ := fun k => (crd c k : sProp 𝕄)) fun k hk => congrArg cred (launch_cell c k hk),
    bigSep_eq_bigSepL_of_eq [(0 : Fin 16), 1, 5, 6, 7, 11, 12, 13] (by decide) (by decide)]
  unfold crds
  exact .rfl

/-! ## The first state -/

/-- What rides beside the buffers up to the region. -/
def E0 (c : Dev nD) : sProp 𝕄 := iprop(Tk m c ∗ (∃ r, prngReg c r) ∗ ow c 10)
/-- And after it. -/
def E1 (c : Dev nD) : sProp 𝕄 := iprop(semVal (cell c bar) 0 ∗ ∃ W, owes (c : Thread nD τ) (0 : CellTallies nD τ sig Unit) W)

theorem bar_only (c : Dev nD) : (unscopedSems0 c : sProp 𝕄) = semVal (cell c bar) 0 := by
  unfold unscopedSems0
  rw [show (Finset.univ.filter fun s : SemLoc sig => ¬ s.isScoped .tc) = {sm bar} from by decide, BI.bigSep_singleton]

/-- What device `c` has of its own once all is dealt. -/
def mine (c : Dev nD) : sProp 𝕄 :=
  iprop((pos c bar 0 ∗ (bigSep (Finset.univ : Finset (Fin 15)) fun k => openTok ER (cell c k.succ)) ∗ toks c) ∗ (crds c ∗ (∃ r, prngReg c r) ∗ ow c 10))

theorem E0_intro (K : Dev nD × Fin 16 → ℕ) (c : Dev nD) : iprop(records (inp m) K ∗ mine c) ⊢ E0 m c := by
  unfold mine E0 Tk
  iintro ⟨#HR, ⟨Hb, Ho, Ht⟩, Hc, Hp, HO⟩
  isplitl [Hb Ho Ht Hc]
  · isplitr; · iexists K; iexact HR
    isplitl [Hb]; · iexact Hb
    isplitl [Ho]; · iexact Ho
    isplitl [Ht] <;> iassumption
  isplitl [Hp] <;> iassumption

theorem deal :
    iprop((bigSep Finset.univ fun c : Dev nD => iprop(unscopedSems0 c
          ∗ owes (c : Thread nD τ) (owed c 10) ∅ ∗ Pipeline.launchCred (fun d => owed d 10) c ∗ prngReg c (ρ c) ∗ G c)) ∗ levAts L lv)
      ⊢ (|={Set.univ}=> bigSep Finset.univ (E0 m) : sProp 𝕄) := by
  have hcore (c : Dev nD) : iprop(unscopedSems0 c
        ∗ owes (c : Thread nD τ) (owed c 10) ∅ ∗ Pipeline.launchCred (fun d => owed d 10) c ∗ prngReg c (ρ c) ∗ G c)
      ⊢ (iprop((crds c ∗ (∃ r, prngReg c r) ∗ ow c 10) ∗ (semVal (cell c bar) 0 ∗ G c)) : sProp 𝕄) := by
    rw [bar_only]
    iintro ⟨Hus, HO, Hcr, Hp, HG⟩
    ihave Hc := (creds (F := F) c) $$ Hcr
    isplitl [Hc HO Hp]
    · isplitl [Hc]; · iexact Hc
      isplitl [Hp]; · iexists (ρ c); iexact Hp
      iexists ∅; iexact HO
    isplitl [Hus] <;> iassumption
  have hv : bigSep Finset.univ (fun c : Dev nD => (semVal (cell c bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (pos c bar 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep (Finset.univ : Finset (Fin 15)) fun k => (openTok ER (cell c k.succ) : sProp 𝕄)) :=
    Entails.of_eq (by rw [bigSep_map, bigSep_univ_prod]; rfl)
  have hre : bigSep barCells (fun g => (reached ER g 0 : sProp 𝕄)) ⊢ bigSep Finset.univ (fun c : Dev nD => (reached ER (cell c bar) 0 : sProp 𝕄)) :=
    Entails.of_eq (bigSep_map (s := Finset.univ) barEmb (Φ := fun g : GSem nD τ sig => (reached ER g 0 : sProp 𝕄)))
  have hinv (κ : GSem nD τ sig → ℕ) : bigSep (barCells ∪ scCells) (fun g => (cellInv ER (sched (inp m)) (κ g) g : sProp 𝕄))
      ⊢ bigSep Finset.univ (fun p : Dev nD × Fin 16 => (cellInv ER (sched (inp m)) (κ (cell p.1 p.2)) (cell p.1 p.2) : sProp 𝕄)) :=
    Entails.of_eq (by rw [cells_all, bigSep_map]; rfl)
  iintro ⟨H, -⟩
  ihave H' := (show (bigSep Finset.univ fun c : Dev nD => iprop(unscopedSems0 c
          ∗ owes (c : Thread nD τ) (owed c 10) ∅ ∗ Pipeline.launchCred (fun d => owed d 10) c ∗ prngReg c (ρ c) ∗ G c))
      ⊢ (bigSep Finset.univ fun c : Dev nD => iprop((crds c ∗ (∃ r, prngReg c r) ∗ ow c 10) ∗ (semVal (cell c bar) 0 ∗ G c)) : sProp 𝕄)
    from bigSep_mono fun c _ => hcore c) $$ H
  ihave H2 := (each (F := F)) $$ H'; icases H2 with ⟨HB, H3⟩
  ihave H4 := (each (F := F)) $$ H3; icases H4 with ⟨Hv, HG⟩
  ihave Hu := (show bigSep Finset.univ (G (F := F)) ⊢ BI.own (ER (launchOf barCells scCells talkToks)) from
    Entails.of_eq (parked_eq (F := F) (BI.own (ER (launchOf barCells scCells talkToks))))) $$ HG
  imod (Rounds.fund_launch ER (sched (inp m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (inp m) fun p => κ (cell p.1 p.2)) (Φ := fun c => mine c) fun c _ => E0_intro m _ c)
  isplitr
  · unfold records
    isplitr
    · iapply (hinv κ); iexact Hinv
    iapply hre; iexact Hr
  unfold mine
  iapply (both (F := F))
  isplitr [HB]
  · iapply (both (F := F)); isplitl [Hat]; · iapply hat $$ Hat
    iapply (both (F := F)); isplitl [Hopen]; · iapply hop $$ Hopen
    iapply (Entails.of_eq (toks_eq (F := F))) $$ Htok
  · iexact HB

/-! ## The run -/

def segHost : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) E1

abbrev rest (j : Fin 2) (c : Dev nD) : sProp 𝕄 := if j = 0 then E0 m c else E1 c

abbrev items (c : Dev nD) : List (Seg (pcfgs (F := F)) adm (pdats m) () defs₀ 𝒱₀ L lv) :=
  [.host (seg0 m 𝒱₀ L lv (rest m) c), .region (reg0 m), .host (segHost m)]

theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) Sr W) :=
  StableHlo.held_sub_split (c : Thread nD τ) (by decide) W

theorem reg_pre (c : Dev nD) : iprop(StableHlo.held (c : Thread nD τ) (Pipeline.ucRefs τ sig) (V1 m c) ∗ E0 m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + owed c 10) Wd)
  rw [held_split, zero_add]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption
theorem reg_post (c : Dev nD) : (reg0 m).post c ⊢ iprop(StableHlo.held (c : Thread nD τ) (Pipeline.ucRefs τ sig) (W2 m c) ∗ E1 c) := by
  show iprop(StableHlo.held (c.tc : Thread nD τ) (Pipeline.arrRefs (τ := τ) spec0) (W2 m c) ∗ (∃ r, prngReg c r)
    ∗ (StableHlo.held (c.tc : Thread nD τ) Sr (W2 m c) ∗ emp) ∗ Yk c ∗ ∃ Wd, owes (c : Thread nD τ) (0 : CellTallies nD τ sig Unit) Wd) ⊢ _
  rw [held_split]
  unfold Yk E1
  iintro ⟨Ha, -, ⟨Hr, -⟩, Hb, HO⟩
  isplitl [Ha Hr]; · isplitl [Ha] <;> iassumption
  isplitl [Hb] <;> iassumption

theorem W3_of (c : Dev nD) (r : Ref sig .tc) (h : r ∉ hostOps0_W) (h' : r ≠ main_v28) (h'' : r ∉ hostOps1_W) :
    W3 m c r = m ((c : Thread nD τ).loc r) :=
  (StableHlo.after_of_writes_sub hostOps1 _ hostOps1_writes h'').trans ((W2_of m c r h').trans (V1_of m c r h))

theorem only_bar : ∀ s : SemLoc sig, s.isScoped .tc = false → s = sm bar := by decide

/-- What the end state is asked for on device `c`. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v29) = W3 m c main_v29

set_option backward.isDefEq.respectTransparency.types false in
/-- The program ends from any memory with zero counters; its arguments are as they were, its result is the reshape of the
    kernel's, and every counter is at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [items, Seg.pipes_host, Seg.pipes_region, Seg.pipes_nil]; decide) (fun d => owed d 10) L_of_ne G (u₀ (F := F)) ?_
    (T₀ := fun c => iprop(StableHlo.held (c : Thread nD τ) (Pipeline.ucRefs τ sig) (V0 m c) ∗ E0 m c))
    (Tₙ := fun c => iprop(StableHlo.held (c : Thread nD τ) (Pipeline.ucRefs τ sig) (W3 m c) ∗ semVal (cell c bar) 0))
    (hch := fun c => ⟨.rfl, reg_pre m c, reg_post m c, ?_⟩)
    (hinit := ?_) (QY := fun c s => Ends m c s ∧ s.sem (cell c bar) = 0)
    (hfin := fun c s' => ?_) (hQ := fun s h hs => ⟨fun c => (h c).1, sem_eq_zero hs fun c s hsm => by
      obtain rfl := only_bar s hsm
      exact (h c).2⟩)
  · unfold u₀ G
    iintro Hu
    ihave H := (ownU_pair _ _) $$ Hu
    icases H with ⟨HP, HX⟩
    imodintro
    isplitl [HP]; · iexact HP
    rw [parked_eq]; iexact HX
  · show iprop(StableHlo.held (c : Thread nD τ) (Pipeline.ucRefs τ sig) (W3 m c) ∗ E1 c) ⊢ _
    unfold E1
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (owed c 10) ∅ ∗ Pipeline.launchCred (fun d => owed d 10) c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owed c 10) ∅
              ∗ Pipeline.launchCred (fun d => owed d 10) c ∗ prngReg c (ρ c) ∗ G c)) : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (W3_of m c main_arg0 (by decide) (by decide) (by decide)),
        (h (Proc.devRef .tc main_arg1) (Finset.mem_filter.mpr ⟨StableHlo.devRef_mem_tcRefs main_arg1, by decide⟩)).trans (W3_of m c main_arg1 (by decide) (by decide) (by decide)),
        (h (Proc.devRef .tc main_arg2) (Finset.mem_filter.mpr ⟨StableHlo.devRef_mem_tcRefs main_arg2, by decide⟩)).trans (W3_of m c main_arg2 (by decide) (by decide) (by decide)),
        (h (Proc.devRef .tc main_arg3) (Finset.mem_filter.mpr ⟨StableHlo.devRef_mem_tcRefs main_arg3, by decide⟩)).trans (W3_of m c main_arg3 (by decide) (by decide) (by decide)),
        (h (Proc.devRef .tc main_arg4) (Finset.mem_filter.mpr ⟨StableHlo.devRef_mem_tcRefs main_arg4, by decide⟩)).trans (W3_of m c main_arg4 (by decide) (by decide) (by decide))⟩,
        h (Proc.devRef .tc main_v29) (Finset.mem_filter.mpr ⟨StableHlo.devRef_mem_tcRefs main_v29, by decide⟩)⟩, by simpa using hb⟩
    · iexact HSI

end Cert.KernelIdealP

end
-- ==== Proof.Value.Pay.lean ====
/-
  The kernel's payloads read at an index, over the extended reals.
-/
module

public import proofs.«01_k».proof.Proof.KernelIdeal.Sched
public import Idealize.ShloMosaic.Lib.Pointwise

@[expose] public section

set_option maxRecDepth 16384

noncomputable section

namespace Cert.KernelIdealP

open Cert.KernelIdeal Cert.KernelIdeal.Gen
open Idealize.ShloMosaic

/-- The scale of the scores, 1/√128 as the programs write it. -/
abbrev scl : EReal := Ideal.ofBits .f32 0x3DB504F3#32

theorem pay1_apply (x : Vec Ideal S256x1024 .bf16) (w : Vec Ideal S1x1024x128 .bf16) (r : Fin 256) (e : Fin 128) :
    k0_pay1 (F := Ideal) x w (ix2 r e) = (∑ k : Fin 1024, x (ix2 r k) * w (ix3 0 k e)) * scl := by
  pointwise [k0_pay1]

theorem pay2_apply (r : Fin 256) (e : Fin 128) : k0_pay2 (F := Ideal) (ix2 r e) = 0 := by
  pointwise [k0_pay2]

theorem pay3_apply (r : Fin 256) : k0_pay3 (F := Ideal) (ix2 r 0) = 0 := by
  pointwise [k0_pay3]

theorem pay78_apply (r : Fin 256) (f : Fin 1024) : k0_pay78 (F := Ideal) (ix2 r f) = 0 := by
  pointwise [k0_pay78]

theorem pay79_apply (mask : FVec Ideal S256x256 .f32) (q : FVec Ideal S256x128 .bf16) (k : Vec Ideal S1x256x128 .bf16) (r j : Fin 256) :
    k0_pay79 (F := Ideal) mask q k (ix2 r j) = Ideal.exp (∑ e : Fin 128, q (ix2 r e) * k (ix3 0 j e)) * mask (ix2 r j) := by
  pointwise [k0_pay79]

theorem pay82_apply (q : FVec Ideal S256x128 .bf16) (k : Vec Ideal S1x256x128 .bf16) (r j : Fin 256) :
    k0_pay82 (F := Ideal) q k (ix2 r j) = Ideal.exp (∑ e : Fin 128, q (ix2 r e) * k (ix3 0 j e)) := by
  pointwise [k0_pay82]

theorem pay80_apply (mask : FVec Ideal S256x256 .f32) (q : FVec Ideal S256x128 .bf16) (k : Vec Ideal S1x256x128 .bf16)
    (den : Vec Ideal S256x1 .f32) (r : Fin 256) :
    k0_pay80 (F := Ideal) mask q k den (ix2 r 0) = den (ix2 r 0) + ∑ j : Fin 256, k0_pay79 (F := Ideal) mask q k (ix2 r j) := by
  pointwise [k0_pay80]

theorem pay83_apply (q : FVec Ideal S256x128 .bf16) (k : Vec Ideal S1x256x128 .bf16)
    (den : Vec Ideal S256x1 .f32) (r : Fin 256) :
    k0_pay83 (F := Ideal) q k den (ix2 r 0) = den (ix2 r 0) + ∑ j : Fin 256, k0_pay82 (F := Ideal) q k (ix2 r j) := by
  pointwise [k0_pay83]

theorem pay81_apply (mask : FVec Ideal S256x256 .f32) (q : FVec Ideal S256x128 .bf16) (k v : Vec Ideal S1x256x128 .bf16)
    (ctx : Vec Ideal S256x128 .f32) (r : Fin 256) (e : Fin 128) :
    k0_pay81 (F := Ideal) mask q k v ctx (ix2 r e)
      = ctx (ix2 r e) + ∑ j : Fin 256, k0_pay79 (F := Ideal) mask q k (ix2 r j) * v (ix3 0 j e) := by
  pointwise [k0_pay81]

theorem pay84_apply (q : FVec Ideal S256x128 .bf16) (k v : Vec Ideal S1x256x128 .bf16)
    (ctx : Vec Ideal S256x128 .f32) (r : Fin 256) (e : Fin 128) :
    k0_pay84 (F := Ideal) q k v ctx (ix2 r e)
      = ctx (ix2 r e) + ∑ j : Fin 256, k0_pay82 (F := Ideal) q k (ix2 r j) * v (ix3 0 j e) := by
  pointwise [k0_pay84]

theorem pay88_apply (acc : FVec Ideal S256x1024 .f32) (ctx : Vec Ideal S256x128 .f32) (den : Vec Ideal S256x1 .f32)
    (wo : Vec Ideal S1x128x1024 .bf16) (r : Fin 256) (f : Fin 1024) :
    k0_pay88 (F := Ideal) acc ctx den wo (ix2 r f)
      = acc (ix2 r f) + ∑ e : Fin 128, Ideal.div (ctx (ix2 r e)) (den (ix2 r 0)) * wo (ix3 0 e f) := by
  pointwise [k0_pay88]

theorem pay89_apply (X : FVec Ideal S256x1024 .f32) : k0_pay89 (F := Ideal) X = X := by
  funext i; pointwise [k0_pay89]

theorem pay73_apply (X : Vec Ideal S256x1024 .bf16) : k0_pay73 (F := Ideal) X = X := by
  funext i; pointwise [k0_pay73]

theorem uns_apply (X : Vec Ideal S256x1024 .bf16) (r : Fin 256) (f : Fin 1024) : uns (F := Ideal) X (ix3 0 r f) = X (ix2 r f) := by
  unfold uns
  refine congrArg X ?_
  rw [Equiv.symm_apply_eq]
  pointwise

theorem pay102_apply (X : Vec Ideal S256x1024 .bf16) (Y : Vec Ideal S1x256x1024 .bf16) (r : Fin 256) (f : Fin 1024) :
    k0_pay102 (F := Ideal) X Y (ix2 r f) = X (ix2 r f) + Y (ix3 0 r f) := by
  pointwise [k0_pay102]

theorem pay115_apply (X : Vec Ideal S256x1024 .bf16) (Y : Vec Ideal S1x256x1024 .bf16) (r : Fin 256) (f : Fin 1024) :
    k0_pay115 (F := Ideal) X Y (ix2 r f) = X (ix2 r f) + Y (ix3 0 r f) := by
  pointwise [k0_pay115]

theorem pay128_apply (X : Vec Ideal S256x1024 .bf16) (Y : Vec Ideal S1x256x1024 .bf16) (r : Fin 256) (f : Fin 1024) :
    k0_pay128 (F := Ideal) X Y (ix2 r f) = X (ix2 r f) + Y (ix3 0 r f) := by
  pointwise [k0_pay128]

/-- The quotient by 64 as the kernel computes it of a position: the word of the quotient. -/
theorem word_div : ∀ n : Fin 256,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

theorem word_le : ∀ a b : Fin 4,
    (BitVec.setWidth 32 (IntOp.cmpi CmpIPredicate.sle (BitVec.ofNat 32 a.val) (BitVec.ofNat 32 b.val)) : BitVec 32)
      = if a.val ≤ b.val then 1#32 else 0#32 := by decide +kernel

theorem msk_apply (r j : Fin 256) :
    msk (F := Ideal) (ix2 r j) = if j.val / 64 ≤ r.val / 64 then 1 else 0 := by
  pointwise [msk, k0_pay77, k0_pay74, k0_pay75, k0_pay76]
  rw [word_div j, word_div r]
  have h := word_le ⟨j.val / 64, by omega⟩ ⟨r.val / 64, by omega⟩
  dsimp only at h
  rw [h]
  split
  · show (((1#32 : BitVec 32).toInt : ℝ) : EReal) = 1
    norm_num
  · show (((0#32 : BitVec 32).toInt : ℝ) : EReal) = 0
    norm_num

/-- The part of an array a trip reads: one head's rows from `o` on. -/
theorem sub_apply (X : Vec Ideal S8x1024x128 .bf16) (off : Fin 3 → Nat) (inb : ∀ a, off a + S1x256x128.size a ≤ S8x1024x128.size a)
    (t : Fin 8) (o : ℕ) (h : off = ![t.val, o, 0]) (j : Fin 256) (e : Fin 128) (ho : o + j.val < 1024) :
    sub X off S1x256x128.size inb (ix3 0 j e) = X (ix3 t ⟨o + j.val, ho⟩ e) := by
  subst h
  refine congrArg X (funext fun a => Fin.ext ?_)
  rw [Rect.emb_apply]
  fin_cases a
  · exact Nat.add_zero _
  · show o + 1 * j.val = o + j.val; omega
  · show 0 + 1 * e.val = e.val; omega

theorem subq_apply (X : Vec Ideal S8x1024x128 .bf16) (off : Fin 3 → Nat) (inb : ∀ a, off a + S1x1024x128.size a ≤ S8x1024x128.size a)
    (t : Fin 8) (h : off = ![t.val, 0, 0]) (k : Fin 1024) (e : Fin 128) :
    sub X off S1x1024x128.size inb (ix3 0 k e) = X (ix3 t k e) := by
  subst h
  refine congrArg X (funext fun a => Fin.ext ?_)
  rw [Rect.emb_apply]
  fin_cases a
  · exact Nat.add_zero _
  · show 0 + 1 * k.val = k.val; omega
  · show 0 + 1 * e.val = e.val; omega

theorem subo_apply (X : Vec Ideal S8x128x1024 .bf16) (off : Fin 3 → Nat) (inb : ∀ a, off a + S1x128x1024.size a ≤ S8x128x1024.size a)
    (t : Fin 8) (h : off = ![t.val, 0, 0]) (e : Fin 128) (f : Fin 1024) :
    sub X off S1x128x1024.size inb (ix3 0 e f) = X (ix3 t e f) := by
  subst h
  refine congrArg X (funext fun a => Fin.ext ?_)
  rw [Rect.emb_apply]
  fin_cases a
  · exact Nat.add_zero _
  · show 0 + 1 * e.val = e.val; omega
  · show 0 + 1 * f.val = f.val; omega

end Cert.KernelIdealP

end
-- ==== Proof.Value.Heads.lean ====
/-
  What the head loop and the sum over the devices compute, read at an index over the extended reals.
-/
module

public import proofs.«01_k».proof.Proof.Value.Pay

@[expose] public section

set_option maxRecDepth 16384

noncomputable section

namespace Cert.KernelIdealP

open Cert.KernelIdeal Cert.KernelIdeal.Gen
open Idealize.ShloMosaic

/-- Whether row `r` of device `b`'s block of queries may look at key `j`, as a factor. -/
def allow (b : Dev nD) (r : Fin 256) (j : Fin 1024) : EReal := if j.val / 64 ≤ (256 * b.val + r.val) / 64 then 1 else 0

/-- The unnormalized weight of key `j` of head `t` for row `r` of block `b`. -/
def wgt (q : FVec Ideal S256x128 .bf16) (KB : Vec Ideal S8x1024x128 .bf16) (b : Dev nD) (t : Fin 8) (r : Fin 256) (j : Fin 1024) : EReal :=
  Ideal.exp (∑ e : Fin 128, q (ix2 r e) * KB (ix3 t j e)) * allow b r j

/-- Key `j` of block `kc`. -/
abbrev key (kc : Fin 4) (j : Fin 256) : Fin 1024 := ⟨256 * kc.val + j.val, by omega⟩

theorem sum_keys (f : Fin 1024 → EReal) : ∑ j, f j = ∑ kc : Fin 4, ∑ j : Fin 256, f (key kc j) := by
  rw [← Fintype.sum_prod_type']
  refine (Fintype.sum_equiv (finProdFinEquiv (m := 4) (n := 256)) _ _ fun p => ?_).symm
  refine congrArg f (Fin.ext ?_)
  show 256 * p.1.val + p.2.val = p.2.val + 256 * p.1.val
  omega

section Block
variable (KB VB : Vec Ideal S8x1024x128 .bf16) (q : FVec Ideal S256x128 .bf16) (b : Dev nD) (t : Fin 8) (kc : Fin 4)
  (c0 c1 : BitVec 1) (h0 : c0 = if kc.val < b.val then 1#1 else 0#1) (h1 : c1 = if kc.val = b.val then 1#1 else 0#1)
  (o0 o1 : Fin 3 → Nat) (i0 : ∀ a, o0 a + S1x256x128.size a ≤ S8x1024x128.size a) (i1 : ∀ a, o1 a + S1x256x128.size a ≤ S8x1024x128.size a)
  (e0 : o0 = ![t.val, 256 * kc.val, 0]) (e1 : o1 = ![t.val, 256 * kc.val, 0]) (p : DC Ideal) (r : Fin 256)
include h0 h1 e0 e1

theorem block_den :
    (vM msk KB VB c1 o1 i1 q (vU KB VB c0 o0 i0 q p)).1 (ix2 r 0)
      = p.1 (ix2 r 0) + ∑ j : Fin 256, wgt q KB b t r (key kc j) := by
  unfold vM vU
  rcases lt_trichotomy kc.val b.val with h | h | h
  · rw [if_neg (by rw [h1, if_neg (by omega)]; decide), if_pos (by rw [h0, if_pos h])]
    dsimp only
    rw [pay83_apply]
    refine congrArg _ (Finset.sum_congr rfl fun j _ => ?_)
    rw [pay82_apply, wgt, allow, if_pos (by simp only [key]; omega), mul_one]
    refine congrArg _ (Finset.sum_congr rfl fun e _ => ?_)
    rw [sub_apply KB o0 i0 t _ e0 j e (by omega)]
  · rw [if_pos (by rw [h1, if_pos h]), if_neg (by rw [h0, if_neg (by omega)]; decide)]
    dsimp only
    rw [pay80_apply]
    refine congrArg _ (Finset.sum_congr rfl fun j _ => ?_)
    rw [pay79_apply, wgt, msk_apply, allow]
    congr 1
    · refine congrArg _ (Finset.sum_congr rfl fun e _ => ?_)
      rw [sub_apply KB o1 i1 t _ e1 j e (by omega)]
    · simp only [key]
      by_cases hh : j.val / 64 ≤ r.val / 64
      · rw [if_pos hh, if_pos (by omega)]
      · rw [if_neg hh, if_neg (by omega)]
  · rw [if_neg (by rw [h1, if_neg (by omega)]; decide), if_neg (by rw [h0, if_neg (by omega)]; decide)]
    rw [Finset.sum_eq_zero fun j _ => ?_, add_zero]
    rw [wgt, allow, if_neg (by simp only [key]; omega), mul_zero]

theorem block_ctx (e : Fin 128) :
    (vM msk KB VB c1 o1 i1 q (vU KB VB c0 o0 i0 q p)).2 (ix2 r e)
      = p.2 (ix2 r e) + ∑ j : Fin 256, wgt q KB b t r (key kc j) * VB (ix3 t (key kc j) e) := by
  unfold vM vU
  rcases lt_trichotomy kc.val b.val with h | h | h
  · rw [if_neg (by rw [h1, if_neg (by omega)]; decide), if_pos (by rw [h0, if_pos h])]
    dsimp only
    rw [pay84_apply]
    refine congrArg _ (Finset.sum_congr rfl fun j _ => ?_)
    rw [pay82_apply, wgt, allow, if_pos (by simp only [key]; omega), mul_one, sub_apply VB o0 i0 t _ e0 j e (by omega)]
    refine congrArg (Ideal.exp · * _) (Finset.sum_congr rfl fun e _ => ?_)
    rw [sub_apply KB o0 i0 t _ e0 j e (by omega)]
  · rw [if_pos (by rw [h1, if_pos h]), if_neg (by rw [h0, if_neg (by omega)]; decide)]
    dsimp only
    rw [pay81_apply]
    refine congrArg _ (Finset.sum_congr rfl fun j _ => ?_)
    rw [pay79_apply, wgt, msk_apply, allow, sub_apply VB o1 i1 t _ e1 j e (by omega)]
    congr 2
    · refine congrArg _ (Finset.sum_congr rfl fun e _ => ?_)
      rw [sub_apply KB o1 i1 t _ e1 j e (by omega)]
    · simp only [key]
      by_cases hh : j.val / 64 ≤ r.val / 64
      · rw [if_pos hh, if_pos (by omega)]
      · rw [if_neg hh, if_neg (by omega)]
  · rw [if_neg (by rw [h1, if_neg (by omega)]; decide), if_neg (by rw [h0, if_neg (by omega)]; decide)]
    rw [Finset.sum_eq_zero fun j _ => ?_, add_zero]
    rw [wgt, allow, if_neg (by simp only [key]; omega), mul_zero, zero_mul]

end Block

theorem case0 : ∀ b : Dev nD, cs4 b 0 = if (0 : Fin 4).val < b.val then 1#1 else 0#1 := by decide +kernel
theorem case1 : ∀ b : Dev nD, cs4 b 1 = if (0 : Fin 4).val = b.val then 1#1 else 0#1 := by decide +kernel
theorem case2 : ∀ b : Dev nD, cs4 b 2 = if (1 : Fin 4).val < b.val then 1#1 else 0#1 := by decide +kernel
theorem case3 : ∀ b : Dev nD, cs4 b 3 = if (1 : Fin 4).val = b.val then 1#1 else 0#1 := by decide +kernel
theorem case4 : ∀ b : Dev nD, cs4 b 4 = if (2 : Fin 4).val < b.val then 1#1 else 0#1 := by decide +kernel
theorem case5 : ∀ b : Dev nD, cs4 b 5 = if (2 : Fin 4).val = b.val then 1#1 else 0#1 := by decide +kernel
theorem case6 : ∀ b : Dev nD, cs4 b 6 = if (3 : Fin 4).val < b.val then 1#1 else 0#1 := by decide +kernel
theorem case7 : ∀ b : Dev nD, cs4 b 7 = if (3 : Fin 4).val = b.val then 1#1 else 0#1 := by decide +kernel

/-- A trip's number as a head's. -/
abbrev hd (t : Trips) : Fin 8 := ⟨t.val, lt_of_lt_of_eq t.isLt trips8⟩

theorem off4_eq : ∀ t : Trips, k0_off4 t = ![(hd t).val, 0, 0] := by decide +kernel
theorem off5_eq : ∀ t : Trips, k0_off5 t = ![(hd t).val, 256 * (0 : Fin 4).val, 0] := by decide +kernel
theorem off6_eq : ∀ t : Trips, k0_off6 t = ![(hd t).val, 256 * (0 : Fin 4).val, 0] := by decide +kernel
theorem off7_eq : ∀ t : Trips, k0_off7 t = ![(hd t).val, 256 * (1 : Fin 4).val, 0] := by decide +kernel
theorem off8_eq : ∀ t : Trips, k0_off8 t = ![(hd t).val, 256 * (1 : Fin 4).val, 0] := by decide +kernel
theorem off9_eq : ∀ t : Trips, k0_off9 t = ![(hd t).val, 256 * (2 : Fin 4).val, 0] := by decide +kernel
theorem off10_eq : ∀ t : Trips, k0_off10 t = ![(hd t).val, 256 * (2 : Fin 4).val, 0] := by decide +kernel
theorem off11_eq : ∀ t : Trips, k0_off11 t = ![(hd t).val, 256 * (3 : Fin 4).val, 0] := by decide +kernel
theorem off12_eq : ∀ t : Trips, k0_off12 t = ![(hd t).val, 256 * (3 : Fin 4).val, 0] := by decide +kernel
theorem off13_eq : ∀ t : Trips, k0_off13 t = ![(hd t).val, 0, 0] := by decide +kernel

section Head
variable (x : Vec Ideal S256x1024 .bf16) (WQ : Vec Ideal S8x1024x128 .bf16) (WO : Vec Ideal S8x128x1024 .bf16)
  (KB VB : Vec Ideal S8x1024x128 .bf16) (b : Dev nD)

theorem dc_den (t : Trips) (q : FVec Ideal S256x128 .bf16) (r : Fin 256) :
    (dcV msk KB VB (cs4 b) t q).1 (ix2 r 0) = ∑ j : Fin 1024, wgt q KB b (hd t) r j := by
  unfold dcV
  rw [block_den KB VB q b (hd t) 3 _ _ (case6 b) (case7 b) _ _ _ _ (off11_eq t) (off12_eq t),
    block_den KB VB q b (hd t) 2 _ _ (case4 b) (case5 b) _ _ _ _ (off9_eq t) (off10_eq t),
    block_den KB VB q b (hd t) 1 _ _ (case2 b) (case3 b) _ _ _ _ (off7_eq t) (off8_eq t),
    block_den KB VB q b (hd t) 0 _ _ (case0 b) (case1 b) _ _ _ _ (off5_eq t) (off6_eq t),
    sum_keys, Fin.sum_univ_four]
  dsimp only
  rw [pay3_apply, zero_add]

theorem dc_ctx (t : Trips) (q : FVec Ideal S256x128 .bf16) (r : Fin 256) (e : Fin 128) :
    (dcV msk KB VB (cs4 b) t q).2 (ix2 r e) = ∑ j : Fin 1024, wgt q KB b (hd t) r j * VB (ix3 (hd t) j e) := by
  unfold dcV
  rw [block_ctx KB VB q b (hd t) 3 _ _ (case6 b) (case7 b) _ _ _ _ (off11_eq t) (off12_eq t),
    block_ctx KB VB q b (hd t) 2 _ _ (case4 b) (case5 b) _ _ _ _ (off9_eq t) (off10_eq t),
    block_ctx KB VB q b (hd t) 1 _ _ (case2 b) (case3 b) _ _ _ _ (off7_eq t) (off8_eq t),
    block_ctx KB VB q b (hd t) 0 _ _ (case0 b) (case1 b) _ _ _ _ (off5_eq t) (off6_eq t),
    sum_keys, Fin.sum_univ_four]
  dsimp only
  rw [pay2_apply, zero_add]

/-- The queries of head `t`. -/
def qry (t : Fin 8) (r : Fin 256) (e : Fin 128) : EReal := (∑ k : Fin 1024, x (ix2 r k) * WQ (ix3 t k e)) * scl

/-- The unnormalized weight of key `j`, from the activations. -/
def wt (t : Fin 8) (r : Fin 256) (j : Fin 1024) : EReal :=
  Ideal.exp (∑ e : Fin 128, qry x WQ t r e * KB (ix3 t j e)) * allow b r j

/-- What head `t` adds to the output. -/
def share (t : Fin 8) (r : Fin 256) (f : Fin 1024) : EReal :=
  ∑ e : Fin 128, Ideal.div (∑ j : Fin 1024, wt x WQ KB b t r j * VB (ix3 t j e)) (∑ j : Fin 1024, wt x WQ KB b t r j) * WO (ix3 t e f)

theorem wgt_q (t : Trips) (r : Fin 256) (j : Fin 1024) : wgt (qV x WQ t) KB b (hd t) r j = wt x WQ KB b (hd t) r j := by
  unfold wgt wt qry qV
  refine congrArg (Ideal.exp · * _) (Finset.sum_congr rfl fun e _ => ?_)
  rw [pay1_apply]
  refine congrArg (· * scl * _) (Finset.sum_congr rfl fun k _ => ?_)
  rw [subq_apply WQ _ _ (hd t) (off4_eq t)]

theorem head_apply (t : Trips) (acc : FVec Ideal S256x1024 .f32) (r : Fin 256) (f : Fin 1024) :
    headV msk x WQ WO KB VB (cs4 b) t acc (ix2 r f) = acc (ix2 r f) + share x WQ WO KB VB b (hd t) r f := by
  unfold headV share
  rw [pay88_apply]
  refine congrArg _ (Finset.sum_congr rfl fun e _ => ?_)
  rw [dc_den, dc_ctx, subo_apply WO _ _ (hd t) (off13_eq t)]
  simp only [wgt_q]

theorem acc_apply (r : Fin 256) (f : Fin 1024) (n : ℕ) (hn : n ≤ 8) :
    accV msk x WQ WO KB VB (cs4 b) n (ix2 r f) = ∑ t ∈ Finset.range n, if h : t < 8 then share x WQ WO KB VB b ⟨t, h⟩ r f else 0 := by
  induction n with
  | zero => rw [Finset.range_zero, Finset.sum_empty]; exact pay78_apply r f
  | succ n ih =>
    rw [Finset.sum_range_succ, ← ih (by omega), dif_pos (by omega : n < 8)]
    show (if h : n < k0_t1_loop.trips then _ else _ : FVec Ideal S256x1024 .f32) _ = _
    rw [dif_pos (lt_of_lt_of_eq (by omega) trips8.symm), head_apply]

theorem heads_apply (r : Fin 256) (f : Fin 1024) :
    headsV msk x WQ WO KB VB (cs4 b) (ix2 r f) = ∑ t : Fin 8, share x WQ WO KB VB b t r f := by
  unfold headsV
  rw [trips8, acc_apply x WQ WO KB VB b r f 8 le_rfl, Finset.sum_range]
  exact Finset.sum_congr rfl fun t _ => dif_pos t.isLt

end Head

theorem back4 : ∀ c : Dev nD, back (back c 1) 1 = back c 2 ∧ back (back c 1) 3 = c ∧ back (back c 2) 1 = back c 3 ∧ back (back c 2) 2 = c := by decide

theorem back_sum (f : Dev nD → EReal) (c : Dev nD) : f c + (f (back c 1) + (f (back c 2) + f (back c 3))) = ∑ d, f d := by
  show _ = ∑ d : Fin 4, f d
  rw [Fin.sum_univ_four]
  fin_cases c
  · show f 0 + (f 3 + (f 2 + f 1)) = _
    ac_rfl
  · show f 1 + (f 0 + (f 3 + f 2)) = _
    ac_rfl
  · show f 2 + (f 1 + (f 0 + f 3)) = _
    ac_rfl
  · show f 3 + (f 2 + (f 1 + f 0)) = _
    ac_rfl

/-- Device `c`'s rows of the output: the heads' shares summed over heads and devices. -/
theorem out_apply (A : Dev nD → Inp Ideal) (c : Dev nD) (r : Fin 256) (f : Fin 1024) :
    outV A c (ix2 r f) = ∑ d : Dev nD, ∑ t : Fin 8, share (A c).x (A d).wq (A d).wo (A d).kb (A d).vb c t r f := by
  have hP : ∀ d, PC A d c (ix2 r f) = ∑ t : Fin 8, share (A c).x (A d).wq (A d).wo (A d).kb (A d).vb c t r f := fun d => by
    unfold PC AC xv
    rw [pay89_apply, pay73_apply, heads_apply]
  unfold outV
  rw [pay128_apply, uns_apply]
  unfold R2
  rw [pay115_apply, uns_apply]
  unfold R1
  rw [pay102_apply, uns_apply]
  unfold R0
  obtain ⟨h1, h2, h3, h4⟩ := back4 c
  rw [h1, h2, h3, h4, ← back_sum _ c, hP, hP, hP, hP]

end Cert.KernelIdealP

end
-- ==== Proof.Value.Ref.lean ====
/-
  The reference's result, read at an index over the extended reals.
-/
module

public import proofs.«01_k».proof.Proof.Gen.ReferenceIdeal.Run
public import Idealize.ShloMosaic.Lib.Pointwise
public import Idealize.ShloMosaic.Lib.Tactic.CleanTypes
public import Idealize.ShloMosaic.Lib.Routing.OpsOrder

@[expose] public section

set_option maxRecDepth 16384

noncomputable section

namespace Cert.ReferenceIdeal.Value

open Cert.ReferenceIdeal Cert.ReferenceIdeal.Gen
open Idealize.ShloMosaic Idealize.ShloMosaic.TcCoe

/-- The block of each key, as the reference computes it: its position over 64, rounded down. -/
def quotK : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The block of each row. -/
def quotQ : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- Which keys a row may see. -/
def maskT : IVec S1024x4096 1 :=
  cmpi .sle (broadcastInDim S1024x4096 ![0, 1] bcast_S1x4096_S1024x4096_0_1 (broadcastInDim S1x4096 ![1] bcast_S4096_S1x4096_1 quotK)) (broadcastInDim S1024x4096 ![0, 1] bcast_S1024x1_S1024x4096_0_1 (broadcastInDim S1024x1 ![0] bcast_S1024_S1024x1_0 quotQ))

/-- Whether a row sees any key. -/
def anyT : IVec S1024 1 :=
  Host.reduce IntOp.ori maskT (constantI S_ 1 0#1) reducesTo_S1024x4096_S1024_d1 h_S_

theorem quotK_apply : ∀ n : Fin 4096, quotK (ix1 n) = BitVec.ofNat 32 (n.val / 64) := by decide +kernel

theorem quotQ_apply : ∀ n : Fin 1024, quotQ (ix1 n) = BitVec.ofNat 32 (n.val / 64) := by decide +kernel

theorem le_eq : ∀ (a : Fin 64) (b : Fin 16), IntOp.cmpi CmpIPredicate.sle (BitVec.ofNat 32 a.val) (BitVec.ofNat 32 b.val)
    = if a.val ≤ b.val then 1#1 else 0#1 := by decide +kernel

theorem maskT_apply (i : Fin 1024) (j : Fin 4096) :
    maskT (ix2 i j) = if j.val / 64 ≤ i.val / 64 then 1#1 else 0#1 := by
  unfold maskT
  pointwise
  rw [quotK_apply, quotQ_apply]
  exact le_eq ⟨j.val / 64, by omega⟩ ⟨i.val / 64, by omega⟩

theorem anyT_apply (i : Fin 1024) : anyT (ix1 i) = 1#1 := by
  unfold anyT
  pointwise
  rw [Routing.fold_ori]
  exact ⟨0, Finset.mem_univ _, by rw [maskT_apply]; exact if_pos (Nat.zero_le _)⟩

theorem bot_eq : Ideal.ofBits .f32 0xFF800000#32 = (⊥ : EReal) := by
  simp [Ideal.ofBits, Ideal.ieee]

theorem select_if (p : Prop) [Decidable p] (a b : EReal) : Scalar.select (if p then 1#1 else 0#1) a b = if p then a else b := by
  by_cases h : p
  · rw [if_pos h, if_pos h]; rfl
  · rw [if_neg h, if_neg h]; rfl

theorem select_one (a b : EReal) : Scalar.select (1#1) a b = a := by rfl

section
variable (X : FVec Ideal S1x1024x1024 .f32) (Wq : FVec Ideal S1024x4096 .f32) (K V : FVec Ideal S1x4096x32x128 .f32) (Wo : FVec Ideal S4096x1024 .f32)

/-- The scaled scores. -/
def rawT : FVec Ideal S1x32x1024x4096 .f32 :=
  mulf (Host.dotGeneral dot_S1x1024x32x128_S1x4096x32x128_S1x32x1024x4096_3_3_1_1_02_02 none (shapeCast _ (Host.dotGeneral dot_S1x1024x1024_S1024x4096_S1x1024x4096_2_0_01_1_n_n none X Wq) shapeCasts_S1x1024x4096_S1x1024x32x128) K) (broadcastInDim S1x32x1024x4096 ![] bcast_S_S1x32x1024x4096 (constant S_ .f32 0x3DB504F3#32))

/-- The scores under the mask. -/
def scoreT : FVec Ideal S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 maskT)) (rawT X Wq K) (broadcastInDim S1x32x1024x4096 ![] bcast_S_S1x32x1024x4096 (id (constant S_ .f32 0xFF800000#32)))

/-- Each row's largest score. -/
def topT : FVec Ideal S1x32x1024 .f32 :=
  Host.reduce FloatOps.maximumf (scoreT X Wq K) (constant S_ .f32 0xFF800000#32) reducesTo_S1x32x1024x4096_S1x32x1024_d3 h_S_

/-- The exponentials of the scores less the largest. -/
def expT : FVec Ideal S1x32x1024x4096 .f32 :=
  Host.exp (subf (scoreT X Wq K) (broadcastInDim S1x32x1024x4096 ![0, 1, 2, 3] bcast_S1x32x1024x1_S1x32x1024x4096_0_1_2_3 (broadcastInDim S1x32x1024x1 ![0, 1, 2] bcast_S1x32x1024_S1x32x1024x1_0_1_2 (topT X Wq K))))

/-- Their sums. -/
def denT : FVec Ideal S1x32x1024x1 .f32 :=
  select (broadcastInDim S1x32x1024x1 ![0, 1, 2, 3] bcast_S1x1x1024x1_S1x32x1024x1_0_1_2_3 (broadcastInDim S1x1x1024x1 ![2] bcast_S1024_S1x1x1024x1_2 anyT)) (broadcastInDim S1x32x1024x1 ![0, 1, 2] bcast_S1x32x1024_S1x32x1024x1_0_1_2 (Host.reduceAdd (expT X Wq K) (constant S_ .f32 0x00000000#32) reducesTo_S1x32x1024x4096_S1x32x1024_d3 h_S_)) (broadcastInDim S1x32x1024x1 ![] bcast_S_S1x32x1024x1 (id (constant S_ .f32 0x3F800000#32)))

/-- The attention weights. -/
def probT : FVec Ideal S1x32x1024x4096 .f32 :=
  select (broadcastInDim S1x32x1024x4096 ![0, 1, 2, 3] bcast_S1x1x1024x1_S1x32x1024x4096_0_1_2_3 (broadcastInDim S1x1x1024x1 ![2] bcast_S1024_S1x1x1024x1_2 anyT)) (Host.divf (expT X Wq K) (broadcastInDim S1x32x1024x4096 ![0, 1, 2, 3] bcast_S1x32x1024x1_S1x32x1024x4096_0_1_2_3 (denT X Wq K))) (broadcastInDim S1x32x1024x4096 ![] bcast_S_S1x32x1024x4096 (id (constant S_ .f32 0x00000000#32)))

/-- The result. -/
def resT : FVec Ideal S1x1024x1024 .f32 :=
  Host.dotGeneral dot_S1x1024x4096_S4096x1024_S1x1024x1024_2_0_01_1_n_n none (shapeCast _ (transpose S1x1024x32x128 [0, 3, 1, 2] (Host.dotGeneral dot_S1x4096x32x128_S1x32x1024x4096_S1x32x128x1024_1_3_3_2_02_01 none V (probT X Wq K)) transposes_S1x32x128x1024_S1x1024x32x128_0_3_1_2) shapeCasts_S1x1024x32x128_S1x1024x4096) Wo

/-- A column of the projection: column `e` of head `h`. -/
abbrev col (h : Fin 32) (e : Fin 128) : Fin 4096 := ⟨h.val * 128 + e.val, by omega⟩

/-- The score of key `j` of head `h` for row `i`. -/
def score (i : Fin 1024) (h : Fin 32) (j : Fin 4096) : EReal :=
  (∑ e : Fin 128, (∑ k : Fin 1024, X (ix3 0 i k) * Wq (ix2 k (col h e))) * K (ix4 0 j h e)) * Ideal.ofBits .f32 0x3DB504F3#32

/-- The score under the mask. -/
def mscore (i : Fin 1024) (h : Fin 32) (j : Fin 4096) : EReal := if j.val / 64 ≤ i.val / 64 then score X Wq K i h j else ⊥

/-- The largest score of a row. -/
def mtop (i : Fin 1024) (h : Fin 32) : EReal := Finset.fold max ⊥ (mscore X Wq K i h) Finset.univ

/-- The context of head `h` for row `i`. -/
def context (i : Fin 1024) (h : Fin 32) (e : Fin 128) : EReal :=
  ∑ j : Fin 4096, V (ix4 0 j h e) * Ideal.div (Ideal.exp (mscore X Wq K i h j - mtop X Wq K i h))
    (∑ k : Fin 4096, Ideal.exp (mscore X Wq K i h k - mtop X Wq K i h))

theorem rawT_apply (i : Fin 1024) (h : Fin 32) (j : Fin 4096) : rawT X Wq K (ix4 0 h i j) = score X Wq K i h j := by
  unfold rawT score
  pointwise

theorem scoreT_apply (i : Fin 1024) (h : Fin 32) (j : Fin 4096) : scoreT X Wq K (ix4 0 h i j) = mscore X Wq K i h j := by
  unfold scoreT mscore
  simp only [id_eq]
  pointwise
  simp only [maskT_apply, rawT_apply, bot_eq, select_if]

theorem topT_apply (i : Fin 1024) (h : Fin 32) : topT X Wq K (ix3 0 h i) = mtop X Wq K i h := by
  unfold topT mtop
  pointwise
  simp only [scoreT_apply, bot_eq]

theorem expT_apply (i : Fin 1024) (h : Fin 32) (j : Fin 4096) :
    expT X Wq K (ix4 0 h i j) = Ideal.exp (mscore X Wq K i h j - mtop X Wq K i h) := by
  unfold expT
  pointwise
  simp only [scoreT_apply, topT_apply]

theorem denT_apply (i : Fin 1024) (h : Fin 32) :
    denT X Wq K (ix4 0 h i 0) = ∑ k : Fin 4096, Ideal.exp (mscore X Wq K i h k - mtop X Wq K i h) := by
  unfold denT
  simp only [id_eq]
  pointwise
  simp only [anyT_apply, select_one, expT_apply]

end

end Cert.ReferenceIdeal.Value

end
-- ==== Proof.Value.Ref2.lean ====
/-
  The reference's attention weights and result, read at an index.
-/
module

public import proofs.«01_k».proof.Proof.Value.Ref
public import Idealize.ShloMosaic.Lib.Pointwise
public import Idealize.ShloMosaic.Lib.Tactic.CleanTypes
public import Idealize.ShloMosaic.Lib.Routing.OpsOrder

@[expose] public section

set_option maxRecDepth 16384

noncomputable section

namespace Cert.ReferenceIdeal.Value

open Cert.ReferenceIdeal Cert.ReferenceIdeal.Gen
open Idealize.ShloMosaic Idealize.ShloMosaic.TcCoe

/-- A word of each row, spread over heads and keys. -/
theorem bA (A : IVec S1024 1) (h : Fin 32) (i : Fin 1024) (j : Fin 4096) :
    (broadcastInDim S1x32x1024x4096 ![0, 1, 2, 3] bcast_S1x1x1024x1_S1x32x1024x4096_0_1_2_3
      (broadcastInDim S1x1x1024x1 ![2] bcast_S1024_S1x1x1024x1_2 A)) (ix4 0 h i j) = A (ix1 i) := by
  pointwise

/-- A value of each head and row, spread over keys. -/
theorem bD (D : FVec Ideal S1x32x1024x1 .f32) (h : Fin 32) (i : Fin 1024) (j : Fin 4096) :
    (broadcastInDim S1x32x1024x4096 ![0, 1, 2, 3] bcast_S1x32x1024x1_S1x32x1024x4096_0_1_2_3 D) (ix4 0 h i j)
      = D (ix4 0 h i 0) := by
  pointwise

theorem bQ (E D : FVec Ideal S1x32x1024x4096 .f32) (h : Fin 32) (i : Fin 1024) (j : Fin 4096) :
    Host.divf E D (ix4 0 h i j) = Ideal.div (E (ix4 0 h i j)) (D (ix4 0 h i j)) := by
  pointwise

theorem bS (A : IVec S1x32x1024x4096 1) (B C : FVec Ideal S1x32x1024x4096 .f32) (x : S1x32x1024x4096.Idx)
    (h : A x = 1#1) : select A B C x = B x := by
  show Scalar.select (A x) (B x) (C x) = B x
  rw [h]
  exact select_one _ _

section
variable (X : FVec Ideal S1x1024x1024 .f32) (Wq : FVec Ideal S1024x4096 .f32) (K V : FVec Ideal S1x4096x32x128 .f32) (Wo : FVec Ideal S4096x1024 .f32)

theorem probT_apply (i : Fin 1024) (h : Fin 32) (j : Fin 4096) :
    probT X Wq K (ix4 0 h i j) = Ideal.div (Ideal.exp (mscore X Wq K i h j - mtop X Wq K i h))
      (∑ k : Fin 4096, Ideal.exp (mscore X Wq K i h k - mtop X Wq K i h)) := by
  unfold probT
  rw [bS _ _ _ _ ((bA _ h i j).trans (anyT_apply i)), bQ, bD, expT_apply, denT_apply]

theorem resT_apply (i f : Fin 1024) :
    resT X Wq K V Wo (ix3 0 i f)
      = ∑ n : Fin 4096, context X Wq K V i ⟨n.val / 128, by omega⟩ ⟨n.val % 128, by omega⟩ * Wo (ix2 n f) := by
  unfold resT context
  pointwise
  simp only [probT_apply]

end

/-- The reference's result is `resT` of its arguments. -/
theorem res_eq (m : (ℓ : Loc nD τ sig) → Buf (Elt Ideal) ℓ) :
    res_main_v33 m 0 = resT (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3))
      (m (((0 : Dev nD).tc : Thread nD τ).loc main_arg4)) := by
  unfold res_main_v33
  rfl

end Cert.ReferenceIdeal.Value

end
-- ==== Proof.Value.Softmax.lean ====
/-
  A softmax with its maximum subtracted, and one divided by the plain sum of exponentials, weigh a
  row of values alike where the scores are real.
-/
module

public import Idealize.ShloMosaic.PureOps.Ideal

@[expose] public section

noncomputable section

namespace Cert.Softmax

open Idealize.ShloMosaic

theorem coe_sum {ι : Type} (s : Finset ι) (f : ι → ℝ) : ((∑ j ∈ s, f j : ℝ) : EReal) = ∑ j ∈ s, (f j : EReal) := by
  classical
  induction s using Finset.induction_on with
  | empty => rw [Finset.sum_empty, Finset.sum_empty]; rfl
  | insert a s h ih => rw [Finset.sum_insert h, Finset.sum_insert h, EReal.coe_add, ih]

theorem sum_mul_coe {ι : Type} (s : Finset ι) (f : ι → EReal) (c : ℝ) (hc : 0 ≤ c) :
    (∑ j ∈ s, f j) * (c : EReal) = ∑ j ∈ s, f j * (c : EReal) := by
  classical
  induction s using Finset.induction_on with
  | empty => rw [Finset.sum_empty, Finset.sum_empty, zero_mul]
  | insert a s h ih =>
    rw [Finset.sum_insert h, Finset.sum_insert h,
      EReal.right_distrib_of_nonneg_of_ne_top (EReal.coe_nonneg.mpr hc) (EReal.coe_ne_top c), ih]

/-- A value that is a real number. -/
abbrev IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.sum {ι : Type} {s : Finset ι} {f : ι → EReal} (h : ∀ j, IsReal (f j)) : IsReal (∑ j ∈ s, f j) := by
  choose g hg using h
  exact ⟨∑ j ∈ s, g j, by rw [coe_sum]; exact Finset.sum_congr rfl fun j _ => hg j⟩

/-- A common factor of the terms, drawn out of a sum of products of reals. -/
theorem scale_out {ι : Type} (s : Finset ι) (a b : ι → EReal) (c : EReal) (ha : ∀ j, IsReal (a j)) (hb : ∀ j, IsReal (b j)) (hc : IsReal c) :
    ∑ j ∈ s, a j * c * b j = (∑ j ∈ s, a j * b j) * c := by
  choose a' ha using ha
  choose b' hb using hb
  obtain ⟨c', rfl⟩ := hc
  simp only [ha, hb, ← EReal.coe_mul, ← coe_sum]
  rw [Finset.sum_mul]
  exact congrArg _ (Finset.sum_congr rfl fun j _ => by ring)

section
variable {n : ℕ} (σ : Fin n → ℝ) (A : Fin n → Prop) [DecidablePred A] (j₀ : Fin n) (h₀ : A j₀) (v : Fin n → EReal)

/-- A score under the mask: −∞ where it may not be looked at. -/
def masked (j : Fin n) : EReal := if A j then (σ j : EReal) else ⊥

/-- The largest of them. -/
def top : EReal := Finset.fold max ⊥ (masked σ A) Finset.univ

include h₀ in
theorem top_real : IsReal (top σ A) := by
  have h1 : top σ A < ⊤ := (Finset.fold_max_lt _).mpr ⟨bot_lt_top, fun j _ => by
    unfold masked; split
    · exact EReal.coe_lt_top _
    · exact bot_lt_top⟩
  have h2 : ⊥ < top σ A := (Finset.lt_fold_max _).mpr (Or.inr ⟨j₀, Finset.mem_univ _, by
    unfold masked; rw [if_pos h₀]; exact EReal.bot_lt_coe _⟩)
  exact ⟨(top σ A).toReal, (EReal.coe_toReal h1.ne h2.ne').symm⟩

include h₀ in
theorem softmax :
    ∑ j, v j * Ideal.div (Ideal.exp (masked σ A j - top σ A)) (∑ k, Ideal.exp (masked σ A k - top σ A))
      = Ideal.div (∑ j, (Ideal.exp (σ j) * if A j then 1 else 0) * v j) (∑ j, Ideal.exp (σ j) * if A j then 1 else 0) := by
  obtain ⟨μ, hμ⟩ := top_real σ A j₀ h₀
  rw [hμ]
  set u : Fin n → ℝ := fun j => if A j then Real.exp (σ j) else 0 with hu
  have hu0 : ∀ j, 0 ≤ u j := fun j => by simp only [hu]; split; exacts [(Real.exp_pos _).le, le_rfl]
  have hpos : 0 < ∑ j, u j := Finset.sum_pos' (fun j _ => hu0 j) ⟨j₀, Finset.mem_univ _, by simp only [hu, if_pos h₀]; exact Real.exp_pos _⟩
  have e1 : ∀ j, Ideal.exp (masked σ A j - (μ : EReal)) = ((u j * Real.exp (-μ) : ℝ) : EReal) := fun j => by
    unfold masked
    simp only [hu]
    split
    · rw [← EReal.coe_sub, Ideal.exp_coe, sub_eq_add_neg, Real.exp_add]
    · rw [zero_mul, EReal.bot_sub]; rfl
  have e2 : ∀ j, (Ideal.exp (σ j) * if A j then 1 else 0) = ((u j : ℝ) : EReal) := fun j => by
    simp only [hu]
    split
    · rw [mul_one, Ideal.exp_coe]
    · rw [mul_zero]; rfl
  have hD : (∑ j, u j * Real.exp (-μ)) ≠ 0 := by
    rw [← Finset.sum_mul]; exact (mul_pos hpos (Real.exp_pos _)).ne'
  simp only [e1, e2, ← coe_sum]
  rw [Ideal.div_coe hpos.ne', sum_mul_coe _ _ _ (by positivity)]
  refine Finset.sum_congr rfl fun j _ => ?_
  rw [Ideal.div_coe hD, ← EReal.coe_mul, mul_comm (v j), mul_right_comm (u j : EReal) (v j), ← EReal.coe_mul]
  refine congrArg (fun r : ℝ => (r : EReal) * v j) ?_
  rw [← Finset.sum_mul]
  have := (Real.exp_pos (-μ)).ne'
  field_simp

end

end Cert.Softmax

end
-- ==== Proof.Value.Match.lean ====
/-
  The reference's result is the kernel's sum of shares, over arrays of extended reals: a row's context
  with the maximum subtracted and every key in the sums is the kernel's quotient over the keys of the
  first 1024 positions, and the columns of the result are cut over devices, heads and lanes.
-/
module

public import proofs.«01_k».proof.Proof.Value.Heads
public import proofs.«01_k».proof.Proof.Value.Ref2
public import proofs.«01_k».proof.Proof.Value.Softmax

@[expose] public section

set_option maxRecDepth 16384

noncomputable section

namespace Cert.Match

open Idealize.ShloMosaic Cert.Softmax
open Cert.ReferenceIdeal.Value (col score mscore mtop context)

/-- The reference's argument arrays. -/
abbrev EX : Type := FVec Ideal Cert.ReferenceIdeal.S1x1024x1024 FTy.f32
abbrev EW : Type := FVec Ideal Cert.ReferenceIdeal.S1024x4096 FTy.f32
abbrev EK : Type := FVec Ideal Cert.ReferenceIdeal.S1x4096x32x128 FTy.f32
abbrev EO : Type := FVec Ideal Cert.ReferenceIdeal.S4096x1024 FTy.f32

/-- Of a sum over 4096 keys only the first 1024 count where the others are zero. -/
theorem cut (F : Fin 4096 → EReal) (h : ∀ j : Fin 4096, 1024 ≤ j.val → F j = 0) :
    ∑ j, F j = ∑ j : Fin 1024, F ⟨j.val, by omega⟩ := by
  refine (Fin.sum_univ_add (a := 1024) (b := 3072) F).trans ?_
  have hz : ∑ i : Fin 3072, F (Fin.natAdd 1024 i) = 0 :=
    Finset.sum_eq_zero fun i _ => h _ (by show 1024 ≤ 1024 + i.val; omega)
  rw [hz, add_zero]
  rfl

/-- A sum over a product, cut into blocks. -/
theorem sum_blocks (m n : ℕ) (F : Fin (m * n) → EReal) :
    ∑ x, F x = ∑ d : Fin m, ∑ t : Fin n, F (finProdFinEquiv (d, t)) :=
  (finProdFinEquiv.sum_comp F).symm.trans (Fintype.sum_prod_type _)

/-- Head `t` of device `d`. -/
abbrev head (d : Fin 4) (t : Fin 8) : Fin 32 := ⟨8 * d.val + t.val, by omega⟩

/-- A sum over columns by device, head and lane. -/
theorem sum_cols (G : Fin 32 → Fin 128 → Fin 4096 → EReal) :
    ∑ n : Fin 4096, G ⟨n.val / 128, by omega⟩ ⟨n.val % 128, by omega⟩ n
      = ∑ d : Fin 4, ∑ t : Fin 8, ∑ e : Fin 128, G (head d t) e (col (head d t) e) := by
  refine (sum_blocks 32 128 (fun n : Fin (32 * 128) => G ⟨n.val / 128, by omega⟩ ⟨n.val % 128, by omega⟩ n)).trans ?_
  refine (sum_blocks 4 8 _).trans ?_
  refine Finset.sum_congr rfl fun d _ => Finset.sum_congr rfl fun t _ => Finset.sum_congr rfl fun e _ => ?_
  have h1 : (finProdFinEquiv (m := 4) (n := 8) (d, t)).val = t.val + 8 * d.val := rfl
  have h2 : (finProdFinEquiv (m := 32) (n := 128) (finProdFinEquiv (m := 4) (n := 8) (d, t), e)).val
      = e.val + 128 * (finProdFinEquiv (m := 4) (n := 8) (d, t)).val := rfl
  rw [h1] at h2
  have a1 : ∀ p, (⟨(finProdFinEquiv (m := 32) (n := 128) (finProdFinEquiv (m := 4) (n := 8) (d, t), e)).val / 128, p⟩ : Fin 32) = head d t :=
    fun _ => Fin.ext (by simp only [h2]; omega)
  have a2 : ∀ p, (⟨(finProdFinEquiv (m := 32) (n := 128) (finProdFinEquiv (m := 4) (n := 8) (d, t), e)).val % 128, p⟩ : Fin 128) = e :=
    fun _ => Fin.ext (by simp only [h2]; omega)
  have a3 : finProdFinEquiv (m := 32) (n := 128) (finProdFinEquiv (m := 4) (n := 8) (d, t), e) = col (head d t) e :=
    Fin.ext (by rw [h2]; show _ = (8 * d.val + t.val) * 128 + e.val; omega)
  rw [a1, a2, a3]

theorem scl_real : IsReal Cert.KernelIdealP.scl := by
  simp [Cert.KernelIdealP.scl, Ideal.ofBits, Ideal.ieee]
  exact ⟨_, rfl⟩

section
variable (X : EX) (Wq : EW) (K V : EK) (Wo : EO)

theorem score_real (hX : ∀ x, IsReal (X x)) (hW : ∀ x, IsReal (Wq x)) (hK : ∀ x, IsReal (K x)) (i : Fin 1024) (h : Fin 32) (j : Fin 4096) :
    IsReal (score X Wq K i h j) :=
  IsReal.mul (IsReal.sum fun _ => IsReal.mul (IsReal.sum fun _ => IsReal.mul (hX _) (hW _)) (hK _)) scl_real

/-- A context as a quotient of sums of exponentials over the first 1024 keys. -/
theorem context_eq (hX : ∀ x, IsReal (X x)) (hW : ∀ x, IsReal (Wq x)) (hK : ∀ x, IsReal (K x)) (i : Fin 1024) (h : Fin 32) (e : Fin 128) :
    context X Wq K V i h e
      = Ideal.div (∑ j : Fin 1024, (Ideal.exp (score X Wq K i h ⟨j.val, by omega⟩) * if j.val / 64 ≤ i.val / 64 then 1 else 0) * V (ix4 0 ⟨j.val, by omega⟩ h e))
          (∑ j : Fin 1024, Ideal.exp (score X Wq K i h ⟨j.val, by omega⟩) * if j.val / 64 ≤ i.val / 64 then 1 else 0) := by
  choose σ hσ using score_real X Wq K hX hW hK i h
  have hm : mscore X Wq K i h = masked σ (fun j : Fin 4096 => j.val / 64 ≤ i.val / 64) := by
    funext j
    unfold mscore masked
    rw [hσ]
  have hs := softmax σ (fun j : Fin 4096 => j.val / 64 ≤ i.val / 64) 0 (Nat.zero_le _) (fun j => V (ix4 0 j h e))
  unfold context mtop
  rw [hm]
  refine hs.trans ?_
  congr 1
  · rw [cut _ fun j hj => by rw [if_neg (by omega), mul_zero, zero_mul]]
    refine Finset.sum_congr rfl fun j _ => ?_
    rw [hσ]
  · rw [cut _ fun j hj => by rw [if_neg (by omega), mul_zero]]
    refine Finset.sum_congr rfl fun j _ => ?_
    rw [hσ]

open Cert.KernelIdealP (Inp share qry wt allow outV)
open Cert.KernelIdeal (nD)

/-- Row `r` of device `b`'s block. -/
abbrev row (b : Fin 4) (r : Fin 256) : Fin 1024 := ⟨256 * b.val + r.val, by omega⟩

/-- What device `d`'s head `t` gives to a row of device `b`. -/
theorem share_eq (hX : ∀ x, IsReal (X x)) (hW : ∀ x, IsReal (Wq x)) (hK : ∀ x, IsReal (K x))
    (A : Dev nD → Inp Ideal) (b d : Fin 4)
    (hx : ∀ (r : Fin 256) (k : Fin 1024), (A b).x (ix2 r k) = X (ix3 0 (row b r) k))
    (hwq : ∀ (t : Fin 8) (k : Fin 1024) (e : Fin 128), (A d).wq (ix3 t k e) = Wq (ix2 k (col (head d t) e)))
    (hwo : ∀ (t : Fin 8) (e : Fin 128) (f : Fin 1024), (A d).wo (ix3 t e f) = Wo (ix2 (col (head d t) e) f))
    (hkb : ∀ (t : Fin 8) (j : Fin 1024) (e : Fin 128), (A d).kb (ix3 t j e) = K (ix4 0 ⟨j.val, by omega⟩ (head d t) e))
    (hvb : ∀ (t : Fin 8) (j : Fin 1024) (e : Fin 128), (A d).vb (ix3 t j e) = V (ix4 0 ⟨j.val, by omega⟩ (head d t) e))
    (t : Fin 8) (r : Fin 256) (f : Fin 1024) :
    share (A b).x (A d).wq (A d).wo (A d).kb (A d).vb b t r f
      = ∑ e : Fin 128, context X Wq K V (row b r) (head d t) e * Wo (ix2 (col (head d t) e) f) := by
  have hs : ∀ j : Fin 1024, ∑ e : Fin 128, qry (A b).x (A d).wq t r e * (A d).kb (ix3 t j e)
      = score X Wq K (row b r) (head d t) ⟨j.val, by omega⟩ := fun j => by
    unfold qry score
    simp only [hx, hwq, hkb]
    exact scale_out _ (fun e => ∑ k : Fin 1024, X (ix3 0 (row b r) k) * Wq (ix2 k (col (head d t) e)))
      (fun e => K (ix4 0 ⟨j.val, by omega⟩ (head d t) e)) _ (fun e => IsReal.sum fun _ => IsReal.mul (hX _) (hW _)) (fun e => hK _) scl_real
  have hw : ∀ j : Fin 1024, wt (A b).x (A d).wq (A d).kb b t r j
      = Ideal.exp (score X Wq K (row b r) (head d t) ⟨j.val, by omega⟩) * if j.val / 64 ≤ (row b r).val / 64 then 1 else 0 := fun j => by
    unfold wt allow
    rw [hs]
  unfold share
  refine Finset.sum_congr rfl fun e _ => ?_
  rw [context_eq X Wq K V hX hW hK, hwo]
  simp only [hw, hvb]

/-- The kernel's block of rows is the reference's. -/
theorem out_eq (hX : ∀ x, IsReal (X x)) (hW : ∀ x, IsReal (Wq x)) (hK : ∀ x, IsReal (K x))
    (A : Dev nD → Inp Ideal)
    (hx : ∀ (d : Fin 4) (r : Fin 256) (k : Fin 1024), (A d).x (ix2 r k) = X (ix3 0 (row d r) k))
    (hwq : ∀ (d : Fin 4) (t : Fin 8) (k : Fin 1024) (e : Fin 128), (A d).wq (ix3 t k e) = Wq (ix2 k (col (head d t) e)))
    (hwo : ∀ (d : Fin 4) (t : Fin 8) (e : Fin 128) (f : Fin 1024), (A d).wo (ix3 t e f) = Wo (ix2 (col (head d t) e) f))
    (hkb : ∀ (d : Fin 4) (t : Fin 8) (j : Fin 1024) (e : Fin 128), (A d).kb (ix3 t j e) = K (ix4 0 ⟨j.val, by omega⟩ (head d t) e))
    (hvb : ∀ (d : Fin 4) (t : Fin 8) (j : Fin 1024) (e : Fin 128), (A d).vb (ix3 t j e) = V (ix4 0 ⟨j.val, by omega⟩ (head d t) e))
    (c : Fin 4) (r : Fin 256) (f : Fin 1024) :
    outV A c (ix2 r f) = Cert.ReferenceIdeal.Value.resT X Wq K V Wo (ix3 0 (row c r) f) := by
  rw [Cert.KernelIdealP.out_apply, Cert.ReferenceIdeal.Value.resT_apply,
    sum_cols fun h e n => context X Wq K V (row c r) h e * Wo (ix2 n f)]
  exact Finset.sum_congr rfl fun d _ => Finset.sum_congr rfl fun t _ =>
    share_eq X Wq K V Wo hX hW hK A c d (hx c) (hwq d) (hwo d) (hkb d) (hvb d) t r f

end

end Cert.Match

end
-- ==== Proof.Value.Inputs.lean ====
/-
  What the kernel is given on each device, read at an index of the program's arguments.
-/
module

public import proofs.«01_k».proof.Proof.KernelIdeal.Region
public import Idealize.ShloMosaic.Lib.Pointwise
public import Idealize.ShloMosaic.Lib.StableHlo.ReadAt
public import Idealize.ShloMosaic.Lib.Tactic.WordOmega
public import Idealize.ShloMosaic.Lib.StableHlo.RunClose
public import Idealize.ShloMosaic.Lib.Layout

@[expose] public section

set_option maxRecDepth 16384

noncomputable section

namespace Cert.KernelIdealP

open Cert.KernelIdeal Cert.KernelIdeal.Gen
open Idealize.ShloMosaic Idealize.ShloMosaic.TcCoe

variable (m : (ℓ : Loc nD τ sig) → Buf (Elt Ideal) ℓ) (d : Dev nD)

theorem inp_x (r : Fin 256) (k : Fin 1024) :
    (inp m d).x (ix2 r k) = m ((d : Thread nD τ).loc main_arg0) (ix3 0 r k) := by
  unfold inp V1
  after_reads_at

theorem inp_wq (t : Fin 8) (k : Fin 1024) (e : Fin 128) :
    (inp m d).wq (ix3 t k e) = m ((d : Thread nD τ).loc main_arg1) (ix2 k ⟨t.val * 128 + e.val, by omega⟩) := by
  unfold inp V1
  after_reads_at

theorem inp_wo (t : Fin 8) (e : Fin 128) (f : Fin 1024) :
    (inp m d).wo (ix3 t e f) = m ((d : Thread nD τ).loc main_arg4) (ix2 ⟨t.val * 128 + e.val, by omega⟩ f) := by
  unfold inp V1
  after_reads_at

theorem inp_kb (t : Fin 8) (j : Fin 1024) (e : Fin 128) :
    (inp m d).kb (ix3 t j e) = m ((d : Thread nD τ).loc main_arg2) (ix4 0 ⟨j.val, by omega⟩ ⟨8 * d.val + t.val, by have : d.val < 4 := d.isLt; omega⟩ e) := by
  unfold inp V1
  after_results_simp_entrywise
  clean_types
  pointwise
  refine congrArg (m ((d : Thread nD τ).loc main_arg2)) ?_
  rw [ix4_inj]
  refine ⟨rfl, Fin.ext ?_, Fin.ext ?_, Fin.ext ?_⟩
  · dsimp only
    rw [Host.clampedStart_of_le _ _ _ 0 rfl (by decide), Nat.zero_add]
  · dsimp only
    rw [Host.clampedStart_of_le _ _ _ (8 * d.val) (by clear t j e; revert d; decide +kernel) (by clear t j e; revert d; decide)]
  · dsimp only
    rw [Host.clampedStart_of_le _ _ _ 0 rfl (by decide), Nat.zero_add]

theorem inp_vb (t : Fin 8) (j : Fin 1024) (e : Fin 128) :
    (inp m d).vb (ix3 t j e) = m ((d : Thread nD τ).loc main_arg3) (ix4 0 ⟨j.val, by omega⟩ ⟨8 * d.val + t.val, by have : d.val < 4 := d.isLt; omega⟩ e) := by
  unfold inp V1
  after_results_simp_entrywise
  clean_types
  pointwise
  refine congrArg (m ((d : Thread nD τ).loc main_arg3)) ?_
  rw [ix4_inj]
  refine ⟨rfl, Fin.ext ?_, Fin.ext ?_, Fin.ext ?_⟩
  · dsimp only
    rw [Host.clampedStart_of_le _ _ _ 0 rfl (by decide), Nat.zero_add]
  · dsimp only
    rw [Host.clampedStart_of_le _ _ _ (8 * d.val) (by clear t j e; revert d; decide +kernel) (by clear t j e; revert d; decide)]
  · dsimp only
    rw [Host.clampedStart_of_le _ _ _ 0 rfl (by decide), Nat.zero_add]

end Cert.KernelIdealP

end
-- ==== Proof.Value.Alg.lean ====
/-
  The kernel's results are the reference's, block by block, where the activations, the query weights
  and the keys are finite.
-/
module

public import proofs.«01_k».proof.Defs
public import proofs.«01_k».proof.Proof.Value.Match
public import proofs.«01_k».proof.Proof.Value.Inputs
public import Idealize.ShloMosaic.Lib.Layout

@[expose] public section

set_option maxRecDepth 16384

noncomputable section

namespace Cert.Match

open Idealize.ShloMosaic Idealize.ShloMosaic.TcCoe Cert.Softmax
open Cert.ReferenceIdeal.Value (col resT)

theorem preFactsK : Cert.Pre_finite_KernelIdeal.Facts := by constructor <;> decide

theorem preFactsR : Cert.Pre_finite_ReferenceIdeal.Facts := by constructor <;> decide

/-- A magnitude below +∞ is a real number's. -/
theorem real_of_lt {x : EReal} (h : max x (-x) < ⊤) : IsReal x := by
  induction x using EReal.rec with
  | bot => simp at h
  | coe r => exact ⟨r, rfl⟩
  | top => simp at h

theorem top_eq : Ideal.ofBits .f32 0x7F800000#32 = (⊤ : EReal) := by
  simp [Ideal.ofBits, Ideal.ieee]

theorem real_of_word {x : EReal} (h : BitVec.ofBool (decide (max x (-x) < Ideal.ofBits .f32 0x7F800000#32)) = 1#1) : IsReal x := by
  rw [top_eq] at h
  refine real_of_lt (decide_eq_true_eq.mp ?_)
  revert h
  generalize decide (max x (-x) < ⊤) = b
  revert b
  decide

theorem block_x (v : (⟨3, ![1, 1024, 1024]⟩ : Shape).Idx → EReal) (c : Fin 4) (r : Fin 256) (k : Fin 1024) :
    Layout.block ⟨3, ![1, 256, 1024]⟩ ⟨3, ![1, 1024, 1024]⟩ 1 4 c v (by decide) (ix3 0 r k) = v (ix3 0 (row c r) k) := by
  refine congrArg v (funext fun a => Fin.ext ?_)
  rw [Layout.Tiles.idx_val]
  fin_cases a
  · rfl
  · show c.val * 256 + r.val = 256 * c.val + r.val
    omega
  · rfl

theorem block_wq (v : (⟨2, ![1024, 4096]⟩ : Shape).Idx → EReal) (c : Fin 4) (k : Fin 1024) (n : Fin 1024) :
    Layout.block ⟨2, ![1024, 1024]⟩ ⟨2, ![1024, 4096]⟩ 1 4 c v (by decide) (ix2 k n) = v (ix2 k ⟨1024 * c.val + n.val, by omega⟩) := by
  refine congrArg v (funext fun a => Fin.ext ?_)
  rw [Layout.Tiles.idx_val]
  fin_cases a
  · rfl
  · show c.val * 1024 + n.val = 1024 * c.val + n.val
    omega

theorem block_wo (v : (⟨2, ![4096, 1024]⟩ : Shape).Idx → EReal) (c : Fin 4) (n : Fin 1024) (k : Fin 1024) :
    Layout.block ⟨2, ![1024, 1024]⟩ ⟨2, ![4096, 1024]⟩ 0 4 c v (by decide) (ix2 n k) = v (ix2 ⟨1024 * c.val + n.val, by omega⟩ k) := by
  refine congrArg v (funext fun a => Fin.ext ?_)
  rw [Layout.Tiles.idx_val]
  fin_cases a
  · show c.val * 1024 + n.val = 1024 * c.val + n.val
    omega
  · rfl

section
attribute [local instance] preFactsK
open Cert.KernelIdeal

variable (m : (ℓ : Loc nD τ sig) → Buf (Elt Ideal) ℓ) (h : Cert.Pre_KernelIdeal_finite_KernelIdeal m) (c : Dev nD)
include h

theorem real_x (r : Fin 256) (k : Fin 1024) : IsReal (m ((c : Thread nD τ).loc main_arg0) (ix3 0 r k)) := by
  have h := congrFun (h c).1 (ix3 0 r k)
  unfold Cert.Pre_finite_KernelIdeal.fn at h
  dsimp only at h
  pointwise at h
  exact real_of_word h

theorem real_wq (k n : Fin 1024) : IsReal (m ((c : Thread nD τ).loc main_arg1) (ix2 k n)) := by
  have h := congrFun (h c).2.1 (ix2 k n)
  unfold Cert.Pre_finite_KernelIdeal.fn at h
  dsimp only at h
  pointwise at h
  exact real_of_word h

theorem real_k (j : Fin 4096) (g : Fin 32) (e : Fin 128) : IsReal (m ((c : Thread nD τ).loc main_arg2) (ix4 0 j g e)) := by
  have h := congrFun (h c).2.2 (ix4 0 j g e)
  unfold Cert.Pre_finite_KernelIdeal.fn at h
  dsimp only at h
  pointwise at h
  exact real_of_word h

end

section
attribute [local instance] preFactsK
open Cert.KernelIdeal Cert.KernelIdealP

variable (m : (ℓ : Loc nD τ sig) → Buf (Elt Ideal) ℓ)
  (X : EX) (Wq : EW) (K V : EK) (Wo : EO)

/-- The result of device `c` is the reshape of what its kernel wrote. -/
theorem res_apply (c : Dev nD) (r : Fin 256) (f : Fin 1024) : W3 m c main_v29 (ix3 0 r f) = outV (inp m) c (ix2 r f) := by
  unfold W3
  after_results_simp_entrywise
  clean_types
  pointwise
  exact congrFun (W2_out m c) _

/-- Each device's result is its block of the reference's. -/
theorem blocks (h : Cert.Pre_KernelIdeal_finite_KernelIdeal m)
    (hb : ∀ c : Dev nD,
      m ((c : Thread nD τ).loc main_arg0) = Layout.block ⟨3, ![1, 256, 1024]⟩ ⟨3, ![1, 1024, 1024]⟩ 1 4 c X
      ∧ m ((c : Thread nD τ).loc main_arg1) = Layout.block ⟨2, ![1024, 1024]⟩ ⟨2, ![1024, 4096]⟩ 1 4 c Wq
      ∧ m ((c : Thread nD τ).loc main_arg2) = K
      ∧ m ((c : Thread nD τ).loc main_arg3) = V
      ∧ m ((c : Thread nD τ).loc main_arg4) = Layout.block ⟨2, ![1024, 1024]⟩ ⟨2, ![4096, 1024]⟩ 0 4 c Wo)
    (c : Dev nD) :
    W3 m c main_v29 = Layout.block ⟨3, ![1, 256, 1024]⟩ ⟨3, ![1, 1024, 1024]⟩ 1 4 c (resT X Wq K V Wo) := by
  have b0 : ∀ (d : Fin 4) (r : Fin 256) (k : Fin 1024), m (((d : Dev nD) : Thread nD τ).loc main_arg0) (ix3 0 r k) = X (ix3 0 (row d r) k) :=
    fun d r k => (congrFun (hb d).1 _).trans (block_x X d r k)
  have b1 : ∀ (d : Fin 4) (k n : Fin 1024), m (((d : Dev nD) : Thread nD τ).loc main_arg1) (ix2 k n) = Wq (ix2 k ⟨1024 * d.val + n.val, by omega⟩) :=
    fun d k n => (congrFun (hb d).2.1 _).trans (block_wq Wq d k n)
  have b4 : ∀ (d : Fin 4) (n k : Fin 1024), m (((d : Dev nD) : Thread nD τ).loc main_arg4) (ix2 n k) = Wo (ix2 ⟨1024 * d.val + n.val, by omega⟩ k) :=
    fun d n k => (congrFun (hb d).2.2.2.2 _).trans (block_wo Wo d n k)
  have hX : ∀ x, IsReal (X x) := fun x => by
    obtain ⟨z, i, k, rfl⟩ : ∃ (z : Fin 1) (i k : Fin 1024), x = ix3 z i k := ⟨x 0, x 1, x 2, eq_ix3 x⟩
    obtain rfl : z = 0 := Subsingleton.elim _ _
    have hi : row ⟨i.val / 256, by omega⟩ ⟨i.val % 256, by omega⟩ = i :=
      Fin.ext (by show 256 * (i.val / 256) + i.val % 256 = i.val; omega)
    have := real_x m h (⟨i.val / 256, by omega⟩ : Fin 4) ⟨i.val % 256, by omega⟩ k
    rw [b0, hi] at this
    exact this
  have hW : ∀ x, IsReal (Wq x) := fun x => by
    obtain ⟨k, n, rfl⟩ : ∃ (k : Fin 1024) (n : Fin 4096), x = ix2 k n := ⟨x 0, x 1, eq_ix2 x⟩
    have hn : ∀ p, (⟨1024 * (n.val / 1024) + n.val % 1024, p⟩ : Fin 4096) = n :=
      fun _ => Fin.ext (by show 1024 * (n.val / 1024) + n.val % 1024 = n.val; omega)
    have := real_wq m h (⟨n.val / 1024, by omega⟩ : Fin 4) k ⟨n.val % 1024, by omega⟩
    rw [b1] at this
    have he := congrArg (fun n => Wq (ix2 k n)) (hn (by omega))
    exact he ▸ this
  have hK : ∀ x, IsReal (K x) := fun x => by
    obtain ⟨z, j, g, e, rfl⟩ : ∃ (z : Fin 1) (j : Fin 4096) (g : Fin 32) (e : Fin 128), x = ix4 z j g e :=
      ⟨x 0, x 1, x 2, x 3, eq_ix4 x⟩
    obtain rfl : z = 0 := Subsingleton.elim _ _
    have := real_k m h c j g e
    rw [(hb c).2.2.1] at this
    exact this
  have hc : ∀ (d : Fin 4) (t : Fin 8) (e : Fin 128) p, (⟨1024 * d.val + (t.val * 128 + e.val), p⟩ : Fin 4096) = col (head d t) e :=
    fun d t e _ => Fin.ext (by show 1024 * d.val + (t.val * 128 + e.val) = (8 * d.val + t.val) * 128 + e.val; omega)
  have ho : ∀ (r : Fin 256) (f : Fin 1024), W3 m c main_v29 (ix3 0 r f) = resT X Wq K V Wo (ix3 0 (row c r) f) := fun r f => by
    rw [res_apply]
    refine out_eq X Wq K V Wo hX hW hK (inp m) (fun d r k => ?_) (fun d t k e => ?_) (fun d t e f => ?_) (fun d t j e => ?_) (fun d t j e => ?_) c r f
    · rw [inp_x, b0]
    · rw [inp_wq, b1]
      exact congrArg (fun n => Wq (ix2 k n)) (hc d t e _)
    · rw [inp_wo, b4]
      exact congrArg (fun n => Wo (ix2 n f)) (hc d t e _)
    · rw [inp_kb, (hb d).2.2.1]
    · rw [inp_vb, (hb d).2.2.2.1]
  funext x
  obtain ⟨z, r, f, rfl⟩ : ∃ (z : Fin 1) (r : Fin 256) (f : Fin 1024), x = ix3 z r f := ⟨x 0, x 1, x 2, eq_ix3 x⟩
  obtain rfl : z = 0 := Subsingleton.elim _ _
  exact (ho r f).trans (block_x (resT X Wq K V Wo) c r f).symm

end

end Cert.Match

end
-- ==== Proof.lean ====
/-
  The claim: the frames of the three programs, what the idealization preserves, and that the kernel's
  results are the reference's.
-/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value.Alg
public import Idealize.ShloMosaic.Lib.Quiescent

@[expose] public section

noncomputable section

namespace Cert.Proof

open Idealize.ShloMosaic Idealize.SL.Sem

theorem frame_p : Cert.quiescent_Kernel := fun m ρ _ =>
  (θ_run Cert.Kernel.defs _ _).mono (fun _ h => ⟨fun c => (h.1 c).1, h.2⟩) (Cert.KernelP.run_main m ρ)

theorem frame_pi : Cert.quiescent_KernelIdeal := fun m ρ _ =>
  (θ_run Cert.KernelIdeal.defs _ _).mono (fun _ h => ⟨fun c => (h.1 c).1, h.2⟩) (Cert.KernelIdealP.run_main m ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

section
attribute [local instance] Cert.Match.preFactsK Cert.Match.preFactsR

theorem frame_pi_pre : Cert.quiescent_KernelIdeal_pre_finite_KernelIdeal := fun m ρ _ => frame_pi m ρ trivial

theorem frame_ri_pre : Cert.quiescent_ReferenceIdeal_pre_finite_ReferenceIdeal := fun m ρ _ => frame_ri m ρ trivial

theorem alg : Cert.algebraic_KernelIdeal_ReferenceIdeal_pre_finite_KernelIdeal := fun m ρ m' ρ' h hb =>
  ⟨Cert.ReferenceIdeal.Value.res_main_v33 m' 0,
    (θ_run Cert.KernelIdeal.defs _ _).mono (fun _ hr c => by
      refine ⟨((hr.1 c).2).trans ?_, (hr.1 c).1⟩
      rw [Cert.ReferenceIdeal.Value.res_eq]
      exact Cert.Match.blocks m _ _ _ _ _ h hb c) (Cert.KernelIdealP.run_main m ρ),
    (θ_run Cert.ReferenceIdeal.defs _ _).mono (fun _ hr => hr 0) (Cert.ReferenceIdeal.Value.run m' ρ')⟩

theorem claim : Cert.Claim :=
  ⟨Cert.Kernel.Gen.facts, Cert.KernelIdeal.Gen.facts, Cert.ReferenceIdeal.Gen.facts, Cert.Match.preFactsK, Cert.Match.preFactsR,
    frame_p, frame_pi, frame_pi_pre, frame_ri, frame_ri_pre, trivial, alg⟩

end

end Cert.Proof

end
